-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tree_inputs [hPre_tree_inputs : Cert.Pre_tree_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_tree_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tree_inputs [hPre_tree_inputs : Cert.Pre_tree_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tree_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tree_inputs [hKernelIdeal : Cert.KernelIdeal.Facts] [hPre_tree_inputs : Cert.Pre_tree_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tree_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tree_inputs [hReferenceIdeal : Cert.ReferenceIdeal.Facts] [hPre_tree_inputs : Cert.Pre_tree_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tree_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_tree_inputs [hKernelIdeal : Cert.KernelIdeal.Facts] [hReferenceIdeal : Cert.ReferenceIdeal.Facts] [hPre_tree_inputs : Cert.Pre_tree_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tree_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_tree_inputs : Cert.Pre_tree_inputs.Facts),
    quiescent_Kernel (hKernel := hKernel)
    ∧ quiescent_KernelIdeal (hKernelIdeal := hKernelIdeal)
    ∧ quiescent_KernelIdeal_pre_tree_inputs (hKernelIdeal := hKernelIdeal) (hPre_tree_inputs := hPre_tree_inputs)
    ∧ quiescent_ReferenceIdeal (hReferenceIdeal := hReferenceIdeal)
    ∧ quiescent_ReferenceIdeal_pre_tree_inputs (hReferenceIdeal := hReferenceIdeal) (hPre_tree_inputs := hPre_tree_inputs)
    ∧ preserves_Kernel_KernelIdeal
    ∧ algebraic_KernelIdeal_ReferenceIdeal_pre_tree_inputs (hKernelIdeal := hKernelIdeal) (hReferenceIdeal := hReferenceIdeal) (hPre_tree_inputs := hPre_tree_inputs)
-- ==== Pre_tree_inputs.lean ====
abbrev S16384x2048 : Shape := ⟨2, ![16384, 2048]⟩
abbrev S2048 : Shape := ⟨1, ![2048]⟩
abbrev S_ : Shape := ⟨0, ![]⟩

class Facts : Prop where
  bcast_S_S2048 : S_.BroadcastsInDim S2048 (![] : Fin 0 → Fin S2048.rank)
  natLt_1_32 : 1 < 32
  reducesTo_S2048_S_d0 : S2048.ReducesTo [0] S_
  h_S_ : 0 < S_.numel
  bcast_S_S16384x2048 : S_.BroadcastsInDim S16384x2048 (![] : Fin 0 → Fin S16384x2048.rank)
  reducesTo_S16384x2048_S_d0_1 : S16384x2048.ReducesTo [0, 1] S_

variable [Facts]

def fn_where {F : FTy → Type} [FloatOps F] (arg0 : IVec S2048 1) (arg1 : IVec S_ 32) (arg2 : IVec S2048 32) : IVec S2048 32 :=
  let v0 : IVec S_ 32 := id arg1
  let v1 : IVec S2048 32 := broadcastInDim S2048 ![] bcast_S_S2048 v0
  let v2 : IVec S2048 32 := select arg0 v1 arg2
  v2

def fn_part1 {F : FTy → Type} [FloatOps F] (main_arg0 : FVec F S16384x2048 .f32) (main_arg2 : IVec S2048 32) (main_arg3 : IVec S2048 32) (main_v0 : IVec S2048 32) (main_v7 : IVec S2048 32) (main_v14 : IVec S2048 32) (main_v16 : IVec S2048 1) : IVec S_ 1 :=
  let main_v17 : IVec S2048 32 := (extui 32 · natLt_1_32) main_v16
  let main_v18 : IVec S2048 32 := addi main_v14 main_v17
  let main_c_6 : IVec S_ 32 := constantI S_ 32 585#32
  let main_v19 : IVec S2048 32 := broadcastInDim S2048 ![] bcast_S_S2048 main_c_6
  let main_v20 : IVec S2048 1 := cmpi .sge main_v0 main_v19
  let main_v21 : IVec S2048 32 := (extui 32 · natLt_1_32) main_v20
  let main_v22 : IVec S2048 32 := addi main_v18 main_v21
  let main_v23 : IVec S2048 1 := cmpi .eq main_arg2 main_v7
  let main_c_7 : IVec S_ 1 := constantI S_ 1 1#1
  let main_v24 : IVec S_ 1 := (fun x v => Host.reduce IntOp.andi x v reducesTo_S2048_S_d0 h_S_) main_v23 main_c_7
  let main_v25 : IVec S2048 1 := cmpi .eq main_arg3 main_v22
  let main_c_8 : IVec S_ 1 := constantI S_ 1 1#1
  let main_v26 : IVec S_ 1 := (fun x v => Host.reduce IntOp.andi x v reducesTo_S2048_S_d0 h_S_) main_v25 main_c_8
  let main_v27 : IVec S_ 1 := andi main_v24 main_v26
  let main_cst : FVec F S_ .f32 := constant S_ .f32 0xFF800000#32
  let main_v28 : FVec F S16384x2048 .f32 := broadcastInDim S16384x2048 ![] bcast_S_S16384x2048 main_cst
  let main_v29 : IVec S16384x2048 1 := cmpf .ogt main_arg0 main_v28
  let main_c_9 : IVec S_ 1 := constantI S_ 1 1#1
  let main_v30 : IVec S_ 1 := (fun x v => Host.reduce IntOp.andi x v reducesTo_S16384x2048_S_d0_1 h_S_) main_v29 main_c_9
  let main_v31 : IVec S_ 1 := andi main_v27 main_v30
  main_v31

def fn {F : FTy → Type} [FloatOps F] (main_arg0 : FVec F S16384x2048 .f32) (main_arg1 : FVec F S16384x2048 .f32) (main_arg2 : IVec S2048 32) (main_arg3 : IVec S2048 32) : IVec S_ 1 :=
  let main_v0 : IVec S2048 32 := iotaInDim S2048 32 0
  let main_c : IVec S_ 32 := constantI S_ 32 0#32
  let main_v1 : IVec S2048 32 := broadcastInDim S2048 ![] bcast_S_S2048 main_c
  let main_v2 : IVec S2048 1 := cmpi .eq main_v0 main_v1
  let main_c_0 : IVec S_ 32 := constantI S_ 32 1#32
  let main_v3 : IVec S2048 32 := broadcastInDim S2048 ![] bcast_S_S2048 main_c_0
  let main_v4 : IVec S2048 32 := subi main_v0 main_v3
  let main_c_1 : IVec S_ 32 := constantI S_ 32 3#32
  let main_v5 : IVec S2048 32 := broadcastInDim S2048 ![] bcast_S_S2048 main_c_1
  let main_v6 : IVec S2048 32 := Host.shrsi main_v4 main_v5
  let main_c_2 : IVec S_ 32 := constantI S_ 32 4294967295#32
  let main_v7 : IVec S2048 32 := fn_where (F := F) main_v2 main_c_2 main_v6
  let main_c_3 : IVec S_ 32 := constantI S_ 32 1#32
  let main_v8 : IVec S2048 32 := broadcastInDim S2048 ![] bcast_S_S2048 main_c_3
  let main_v9 : IVec S2048 1 := cmpi .sge main_v0 main_v8
  let main_v10 : IVec S2048 32 := (extui 32 · natLt_1_32) main_v9
  let main_c_4 : IVec S_ 32 := constantI S_ 32 9#32
  let main_v11 : IVec S2048 32 := broadcastInDim S2048 ![] bcast_S_S2048 main_c_4
  let main_v12 : IVec S2048 1 := cmpi .sge main_v0 main_v11
  let main_v13 : IVec S2048 32 := (extui 32 · natLt_1_32) main_v12
  let main_v14 : IVec S2048 32 := addi main_v10 main_v13
  let main_c_5 : IVec S_ 32 := constantI S_ 32 73#32
  let main_v15 : IVec S2048 32 := broadcastInDim S2048 ![] bcast_S_S2048 main_c_5
  let main_v16 : IVec S2048 1 := cmpi .sge main_v0 main_v15
  fn_part1 (F := F) main_arg0 main_arg2 main_arg3 main_v0 main_v7 main_v14 main_v16
-- ==== Kernel.lean ====
abbrev S16384x2048 : Shape := ⟨2, ![16384, 2048]⟩
abbrev S2048 : Shape := ⟨1, ![2048]⟩
abbrev S64x1x128 : Shape := ⟨3, ![64, 1, 128]⟩
abbrev S256x2048 : Shape := ⟨2, ![256, 2048]⟩
abbrev S1x1x128 : Shape := ⟨3, ![1, 1, 128]⟩
abbrev S256 : Shape := ⟨1, ![256]⟩
abbrev S256x1 : Shape := ⟨2, ![256, 1]⟩
abbrev S256x8 : Shape := ⟨2, ![256, 8]⟩
abbrev S256x64 : Shape := ⟨2, ![256, 64]⟩
abbrev S256x512 : Shape := ⟨2, ![256, 512]⟩
abbrev S256x1463 : Shape := ⟨2, ![256, 1463]⟩
abbrev S1x256x1 : Shape := ⟨3, ![1, 256, 1]⟩
abbrev S1 : Shape := ⟨1, ![1]⟩
abbrev S1x1x1 : Shape := ⟨3, ![1, 1, 1]⟩
abbrev S64x1x1 : Shape := ⟨3, ![64, 1, 1]⟩
abbrev S64 : Shape := ⟨1, ![64]⟩
abbrev S_ : Shape := ⟨0, ![]⟩

abbrev nBuf : Space → Nat
  | .hbm => 11
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .i32⟩
  | .hbm, ⟨3, _⟩ => ⟨S2048, .i32⟩
  | .hbm, ⟨4, _⟩ => ⟨S64x1x128, .f32⟩
  | .hbm, ⟨5, _⟩ => ⟨S64x1x1, .f32⟩
  | .hbm, ⟨6, _⟩ => ⟨S64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x1x128, .f32⟩
  | .local _ .vmem, ⟨5, _⟩ => ⟨S1x1x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== ReferenceIdeal.lean ====
abbrev S16384x2048 : Shape := ⟨2, ![16384, 2048]⟩
abbrev S2048 : Shape := ⟨1, ![2048]⟩
abbrev S1x2048 : Shape := ⟨2, ![1, 2048]⟩
abbrev S_ : Shape := ⟨0, ![]⟩
abbrev S1 : Shape := ⟨1, ![1]⟩
abbrev S16384 : Shape := ⟨1, ![16384]⟩
abbrev S16384x1 : Shape := ⟨2, ![16384, 1]⟩
abbrev S2048x1 : Shape := ⟨2, ![2048, 1]⟩

abbrev nBuf : Space → Nat
  | .hbm => 228
  | .vmem => 0
  | .smem => 0
  | _ => 0

abbrev hbmTy0_0 (i : Nat) : BufTy := match i % 128 with
  | 0 => ⟨S16384x2048, .f32⟩
  | 1 => ⟨S16384x2048, .f32⟩
  | 2 => ⟨S2048, .i32⟩
  | 3 => ⟨S2048, .i32⟩
  | 4 => ⟨S2048, .i32⟩
  | 5 => ⟨S1x2048, .i32⟩
  | 6 => ⟨S_, .f32⟩
  | 7 => ⟨S16384x2048, .f32⟩
  | 8 => ⟨S_, .i32⟩
  | 9 => ⟨S1, .i32⟩
  | 10 => ⟨S_, .f32⟩
  | 11 => ⟨S16384, .f32⟩
  | 12 => ⟨S16384x2048, .f32⟩
  | 13 => ⟨S_, .i32⟩
  | 14 => ⟨S16384, .i32⟩
  | 15 => ⟨S1x2048, .i32⟩
  | 16 => ⟨S16384x1, .i32⟩
  | 17 => ⟨S16384x2048, .i32⟩
  | 18 => ⟨S16384x2048, .i32⟩
  | 19 => ⟨S16384x2048, .i1⟩
  | 20 => ⟨S_, .f32⟩
  | 21 => ⟨S16384x2048, .f32⟩
  | 22 => ⟨S16384x2048, .f32⟩
  | 23 => ⟨S_, .i1⟩
  | 24 => ⟨S16384, .i1⟩
  | 25 => ⟨S16384x2048, .i32⟩
  | 26 => ⟨S_, .f32⟩
  | 27 => ⟨S_, .i32⟩
  | 28 => ⟨S16384, .f32⟩
  | 29 => ⟨S16384, .i32⟩
  | 30 => ⟨S16384, .i32⟩
  | 31 => ⟨S16384x1, .i1⟩
  | 32 => ⟨S16384x1, .i32⟩
  | 33 => ⟨S16384x2048, .i32⟩
  | 34 => ⟨S16384x2048, .i32⟩
  | 35 => ⟨S16384x2048, .i1⟩
  | 36 => ⟨S16384x2048, .i1⟩
  | 37 => ⟨S16384x2048, .i1⟩
  | 38 => ⟨S_, .f32⟩
  | 39 => ⟨S_, .f32⟩
  | 40 => ⟨S16384x2048, .f32⟩
  | 41 => ⟨S16384x2048, .f32⟩
  | 42 => ⟨S1x2048, .i32⟩
  | 43 => ⟨S16384x1, .i32⟩
  | 44 => ⟨S16384x2048, .i32⟩
  | 45 => ⟨S16384x2048, .i32⟩
  | 46 => ⟨S16384x2048, .i1⟩
  | 47 => ⟨S_, .f32⟩
  | 48 => ⟨S16384x2048, .f32⟩
  | 49 => ⟨S16384x2048, .f32⟩
  | 50 => ⟨S_, .i1⟩
  | 51 => ⟨S16384, .i1⟩
  | 52 => ⟨S16384x2048, .i32⟩
  | 53 => ⟨S_, .f32⟩
  | 54 => ⟨S_, .i32⟩
  | 55 => ⟨S16384, .f32⟩
  | 56 => ⟨S16384, .i32⟩
  | 57 => ⟨S16384, .i32⟩
  | 58 => ⟨S16384x1, .i1⟩
  | 59 => ⟨S16384x1, .i32⟩
  | 60 => ⟨S16384x2048, .i32⟩
  | 61 => ⟨S16384x2048, .i32⟩
  | 62 => ⟨S16384x2048, .i1⟩
  | 63 => ⟨S16384x2048, .i1⟩
  | 64 => ⟨S16384x2048, .i1⟩
  | 65 => ⟨S_, .f32⟩
  | 66 => ⟨S_, .f32⟩
  | 67 => ⟨S16384x2048, .f32⟩
  | 68 => ⟨S16384x2048, .f32⟩
  | 69 => ⟨S1x2048, .i32⟩
  | 70 => ⟨S16384x1, .i32⟩
  | 71 => ⟨S16384x2048, .i32⟩
  | 72 => ⟨S16384x2048, .i32⟩
  | 73 => ⟨S16384x2048, .i1⟩
  | 74 => ⟨S_, .f32⟩
  | 75 => ⟨S16384x2048, .f32⟩
  | 76 => ⟨S16384x2048, .f32⟩
  | 77 => ⟨S_, .i1⟩
  | 78 => ⟨S16384, .i1⟩
  | 79 => ⟨S16384x2048, .i32⟩
  | 80 => ⟨S_, .f32⟩
  | 81 => ⟨S_, .i32⟩
  | 82 => ⟨S16384, .f32⟩
  | 83 => ⟨S16384, .i32⟩
  | 84 => ⟨S16384, .i32⟩
  | 85 => ⟨S16384x1, .i1⟩
  | 86 => ⟨S16384x1, .i32⟩
  | 87 => ⟨S16384x2048, .i32⟩
  | 88 => ⟨S16384x2048, .i32⟩
  | 89 => ⟨S16384x2048, .i1⟩
  | 90 => ⟨S16384x2048, .i1⟩
  | 91 => ⟨S16384x2048, .i1⟩
  | 92 => ⟨S_, .f32⟩
  | 93 => ⟨S_, .f32⟩
  | 94 => ⟨S16384x2048, .f32⟩
  | 95 => ⟨S16384x2048, .f32⟩
  | 96 => ⟨S1x2048, .i32⟩
  | 97 => ⟨S16384x1, .i32⟩
  | 98 => ⟨S16384x2048, .i32⟩
  | 99 => ⟨S16384x2048, .i32⟩
  | 100 => ⟨S16384x2048, .i1⟩
  | 101 => ⟨S_, .f32⟩
  | 102 => ⟨S16384x2048, .f32⟩
  | 103 => ⟨S16384x2048, .f32⟩
  | 104 => ⟨S_, .i1⟩
  | 105 => ⟨S16384, .i1⟩
  | 106 => ⟨S16384x2048, .i32⟩
  | 107 => ⟨S_, .f32⟩
  | 108 => ⟨S_, .i32⟩
  | 109 => ⟨S16384, .f32⟩
  | 110 => ⟨S16384, .i32⟩
  | 111 => ⟨S16384, .i32⟩
  | 112 => ⟨S16384x1, .i1⟩
  | 113 => ⟨S16384x1, .i32⟩
  | 114 => ⟨S16384x2048, .i32⟩
  | 115 => ⟨S16384x2048, .i32⟩
  | 116 => ⟨S16384x2048, .i1⟩
  | 117 => ⟨S16384x2048, .i1⟩
  | 118 => ⟨S16384x2048, .i1⟩
  | 119 => ⟨S_, .f32⟩
  | 120 => ⟨S_, .f32⟩
  | 121 => ⟨S16384x2048, .f32⟩
  | 122 => ⟨S16384x2048, .f32⟩
  | 123 => ⟨S_, .f32⟩
  | 124 => ⟨S16384x2048, .f32⟩
  | 125 => ⟨S16384x2048, .f32⟩
  | 126 => ⟨S16384x2048, .f32⟩
  | 127 => ⟨S16384x2048, .f32⟩
  | _ => ⟨S16384x2048, .f32⟩

abbrev hbmTy0_1 (i : Nat) : BufTy := match i % 128 with
  | 0 => ⟨S16384x2048, .i1⟩
  | 1 => ⟨S16384x2048, .f32⟩
  | 2 => ⟨S16384x2048, .f32⟩
  | 3 => ⟨S16384x2048, .f32⟩
  | 4 => ⟨S16384x2048, .f32⟩
  | 5 => ⟨S16384x2048, .f32⟩
  | 6 => ⟨S16384x2048, .f32⟩
  | 7 => ⟨S16384x2048, .f32⟩
  | 8 => ⟨S16384x2048, .f32⟩
  | 9 => ⟨S16384x2048, .f32⟩
  | 10 => ⟨S16384x2048, .f32⟩
  | 11 => ⟨S_, .i32⟩
  | 12 => ⟨S2048, .i32⟩
  | 13 => ⟨S2048, .i1⟩
  | 14 => ⟨S_, .i32⟩
  | 15 => ⟨S_, .i32⟩
  | 16 => ⟨S2048, .i32⟩
  | 17 => ⟨S2048, .i32⟩
  | 18 => ⟨S_, .f32⟩
  | 19 => ⟨S16384x2048, .f32⟩
  | 20 => ⟨S16384x2048, .i1⟩
  | 21 => ⟨S_, .f32⟩
  | 22 => ⟨S16384x2048, .f32⟩
  | 23 => ⟨S16384x2048, .i1⟩
  | 24 => ⟨S16384x2048, .i1⟩
  | 25 => ⟨S1x2048, .i1⟩
  | 26 => ⟨S16384x2048, .i1⟩
  | 27 => ⟨S16384x2048, .i1⟩
  | 28 => ⟨S_, .i32⟩
  | 29 => ⟨S2048, .i32⟩
  | 30 => ⟨S2048, .i1⟩
  | 31 => ⟨S_, .i32⟩
  | 32 => ⟨S2048, .i32⟩
  | 33 => ⟨S2048, .i32⟩
  | 34 => ⟨S2048, .i32⟩
  | 35 => ⟨S2048x1, .i32⟩
  | 36 => ⟨S16384x2048, .f32⟩
  | 37 => ⟨S1x2048, .i32⟩
  | 38 => ⟨S_, .i32⟩
  | 39 => ⟨S1x2048, .i32⟩
  | 40 => ⟨S1x2048, .i1⟩
  | 41 => ⟨S16384x2048, .i1⟩
  | 42 => ⟨S16384x2048, .i1⟩
  | 43 => ⟨S16384x2048, .f32⟩
  | 44 => ⟨S16384x2048, .f32⟩
  | 45 => ⟨S_, .i32⟩
  | 46 => ⟨S2048, .i32⟩
  | 47 => ⟨S2048, .i1⟩
  | 48 => ⟨S_, .i32⟩
  | 49 => ⟨S2048, .i32⟩
  | 50 => ⟨S2048, .i32⟩
  | 51 => ⟨S2048, .i32⟩
  | 52 => ⟨S2048x1, .i32⟩
  | 53 => ⟨S16384x2048, .f32⟩
  | 54 => ⟨S1x2048, .i32⟩
  | 55 => ⟨S_, .i32⟩
  | 56 => ⟨S1x2048, .i32⟩
  | 57 => ⟨S1x2048, .i1⟩
  | 58 => ⟨S16384x2048, .i1⟩
  | 59 => ⟨S16384x2048, .i1⟩
  | 60 => ⟨S16384x2048, .f32⟩
  | 61 => ⟨S16384x2048, .f32⟩
  | 62 => ⟨S_, .i32⟩
  | 63 => ⟨S2048, .i32⟩
  | 64 => ⟨S2048, .i1⟩
  | 65 => ⟨S_, .i32⟩
  | 66 => ⟨S2048, .i32⟩
  | 67 => ⟨S2048, .i32⟩
  | 68 => ⟨S2048, .i32⟩
  | 69 => ⟨S2048x1, .i32⟩
  | 70 => ⟨S16384x2048, .f32⟩
  | 71 => ⟨S1x2048, .i32⟩
  | 72 => ⟨S_, .i32⟩
  | 73 => ⟨S1x2048, .i32⟩
  | 74 => ⟨S1x2048, .i1⟩
  | 75 => ⟨S16384x2048, .i1⟩
  | 76 => ⟨S16384x2048, .i1⟩
  | 77 => ⟨S16384x2048, .f32⟩
  | 78 => ⟨S16384x2048, .f32⟩
  | 79 => ⟨S_, .i32⟩
  | 80 => ⟨S2048, .i32⟩
  | 81 => ⟨S2048, .i1⟩
  | 82 => ⟨S_, .i32⟩
  | 83 => ⟨S2048, .i32⟩
  | 84 => ⟨S2048, .i32⟩
  | 85 => ⟨S2048, .i32⟩
  | 86 => ⟨S2048x1, .i32⟩
  | 87 => ⟨S16384x2048, .f32⟩
  | 88 => ⟨S1x2048, .i32⟩
  | 89 => ⟨S_, .i32⟩
  | 90 => ⟨S1x2048, .i32⟩
  | 91 => ⟨S1x2048, .i1⟩
  | 92 => ⟨S16384x2048, .i1⟩
  | 93 => ⟨S16384x2048, .i1⟩
  | 94 => ⟨S16384x2048, .f32⟩
  | 95 => ⟨S16384x2048, .f32⟩
  | 96 => ⟨S_, .f32⟩
  | 97 => ⟨S_, .f32⟩
  | 98 => ⟨S_, .f32⟩
  | 99 => ⟨S_, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_call0_v0 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_call1_v0 : Ref sig .tc := ⟨.hbm, 25, rfl⟩
abbrev main_call1_cst : Ref sig .tc := ⟨.hbm, 26, rfl⟩
abbrev main_call1_c : Ref sig .tc := ⟨.hbm, 27, rfl⟩
abbrev main_call1_v1_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_call3_v0 : Ref sig .tc := ⟨.hbm, 39, rfl⟩
abbrev main_call3_v1 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_call4_v0 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_call5_v0 : Ref sig .tc := ⟨.hbm, 52, rfl⟩
abbrev main_call5_cst : Ref sig .tc := ⟨.hbm, 53, rfl⟩
abbrev main_call5_c : Ref sig .tc := ⟨.hbm, 54, rfl⟩
abbrev main_call5_v1_0 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_call7_v0 : Ref sig .tc := ⟨.hbm, 66, rfl⟩
abbrev main_call7_v1 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_8 : Ref sig .tc := ⟨.hbm, 74, rfl⟩
abbrev main_call8_v0 : Ref sig .tc := ⟨.hbm, 75, rfl⟩
abbrev main_v46 : Ref sig .tc := ⟨.hbm, 76, rfl⟩
abbrev main_c_9 : Ref sig .tc := ⟨.hbm, 77, rfl⟩
abbrev main_v47 : Ref sig .tc := ⟨.hbm, 78, rfl⟩
abbrev main_call9_v0 : Ref sig .tc := ⟨.hbm, 79, rfl⟩
abbrev main_call9_cst : Ref sig .tc := ⟨.hbm, 80, rfl⟩
abbrev main_call9_c : Ref sig .tc := ⟨.hbm, 81, rfl⟩
abbrev main_call9_v1_0 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_10 : Ref sig .tc := ⟨.hbm, 92, rfl⟩
abbrev main_call11_v0 : Ref sig .tc := ⟨.hbm, 93, rfl⟩
abbrev main_call11_v1 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_11 : Ref sig .tc := ⟨.hbm, 101, rfl⟩
abbrev main_call12_v0 : Ref sig .tc := ⟨.hbm, 102, rfl⟩
abbrev main_v63 : Ref sig .tc := ⟨.hbm, 103, rfl⟩
abbrev main_c_12 : Ref sig .tc := ⟨.hbm, 104, rfl⟩
abbrev main_v64 : Ref sig .tc := ⟨.hbm, 105, rfl⟩
abbrev main_call13_v0 : Ref sig .tc := ⟨.hbm, 106, rfl⟩
abbrev main_call13_cst : Ref sig .tc := ⟨.hbm, 107, rfl⟩
abbrev main_call13_c : Ref sig .tc := ⟨.hbm, 108, rfl⟩
abbrev main_call13_v1_0 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_cst_13 : Ref sig .tc := ⟨.hbm, 119, rfl⟩
abbrev main_call15_v0 : Ref sig .tc := ⟨.hbm, 120, rfl⟩
abbrev main_call15_v1 : Ref sig .tc := ⟨.hbm, 121, rfl⟩
abbrev main_v74 : Ref sig .tc := ⟨.hbm, 122, rfl⟩
abbrev main_call16_cst : Ref sig .tc := ⟨.hbm, 123, rfl⟩
abbrev main_call16_v0 : Ref sig .tc := ⟨.hbm, 124, rfl⟩
abbrev main_call16_v1 : Ref sig .tc := ⟨.hbm, 125, rfl⟩
abbrev main_call16_v2 : Ref sig .tc := ⟨.hbm, 126, rfl⟩
abbrev main_call16_v3 : Ref sig .tc := ⟨.hbm, 127, rfl⟩
abbrev main_call16_v4 : Ref sig .tc := ⟨.hbm, 128, rfl⟩
abbrev main_call16_v5 : Ref sig .tc := ⟨.hbm, 129, rfl⟩
abbrev main_call16_v6 : Ref sig .tc := ⟨.hbm, 130, rfl⟩
abbrev main_call16_v7 : Ref sig .tc := ⟨.hbm, 131, rfl⟩
abbrev main_call16_v8 : Ref sig .tc := ⟨.hbm, 132, rfl⟩
abbrev main_call16_v9 : Ref sig .tc := ⟨.hbm, 133, rfl⟩
abbrev main_call16_v10 : Ref sig .tc := ⟨.hbm, 134, rfl⟩
abbrev main_call16_v11 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_c_14 : Ref sig .tc := ⟨.hbm, 139, rfl⟩
abbrev main_v78 : Ref sig .tc := ⟨.hbm, 140, rfl⟩
abbrev main_v79 : Ref sig .tc := ⟨.hbm, 141, rfl⟩
abbrev main_c_15 : Ref sig .tc := ⟨.hbm, 142, rfl⟩
abbrev main_call17_v0 : Ref sig .tc := ⟨.hbm, 143, rfl⟩
abbrev main_call17_v1 : Ref sig .tc := ⟨.hbm, 144, rfl⟩
abbrev main_v80 : Ref sig .tc := ⟨.hbm, 145, rfl⟩
abbrev main_cst_16 : Ref sig .tc := ⟨.hbm, 146, rfl⟩
abbrev main_v81 : Ref sig .tc := ⟨.hbm, 147, rfl⟩
abbrev main_v82 : Ref sig .tc := ⟨.hbm, 148, rfl⟩
abbrev main_cst_17 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_c_18 : Ref sig .tc := ⟨.hbm, 156, rfl⟩
abbrev main_v89 : Ref sig .tc := ⟨.hbm, 157, rfl⟩
abbrev main_v90 : Ref sig .tc := ⟨.hbm, 158, rfl⟩
abbrev main_c_19 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_c_20 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_c_21 : Ref sig .tc := ⟨.hbm, 173, rfl⟩
abbrev main_v103 : Ref sig .tc := ⟨.hbm, 174, rfl⟩
abbrev main_v104 : Ref sig .tc := ⟨.hbm, 175, rfl⟩
abbrev main_c_22 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_c_23 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_c_24 : Ref sig .tc := ⟨.hbm, 190, rfl⟩
abbrev main_v117 : Ref sig .tc := ⟨.hbm, 191, rfl⟩
abbrev main_v118 : Ref sig .tc := ⟨.hbm, 192, rfl⟩
abbrev main_c_25 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_c_26 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_c_27 : Ref sig .tc := ⟨.hbm, 207, rfl⟩
abbrev main_v131 : Ref sig .tc := ⟨.hbm, 208, rfl⟩
abbrev main_v132 : Ref sig .tc := ⟨.hbm, 209, rfl⟩
abbrev main_c_28 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_c_29 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_cst_30 : Ref sig .tc := ⟨.hbm, 224, rfl⟩
abbrev main_v145 : Ref sig .tc := ⟨.hbm, 225, rfl⟩
abbrev main_cst_31 : Ref sig .tc := ⟨.hbm, 226, rfl⟩
abbrev main_v146 : Ref sig .tc := ⟨.hbm, 227, rfl⟩

abbrev nD : Nat := 1
abbrev τ : Topo := Topo.v7x

variable {F : FTy → Type} [FloatOps F]
-- ==== Proof.Tree.lean ====
/- One row of the problem, with no program in sight: the greedy path down the complete 8-ary tree on 2048 nodes, the window
   in which a level's best child is looked for, and the cascade of losses along the path. A row is a function of the node. -/
module

public import Idealize.ShloMosaic.Lib.ValueIdx
public import Idealize.ShloMosaic.PureOps.Reduce
public import Idealize.ShloMosaic.Lib.SortNet.Extract

@[expose] public section

noncomputable section

namespace Cert.Tree

open Idealize.ShloMosaic

/-- A matrix's row, as a function of the node. -/
def row {R : ℕ} (x : (⟨2, ![R, 2048]⟩ : Shape).Idx → EReal) (r : Fin R) (n : ℕ) : EReal :=
  if h : n < 2048 then x (ValueIdx.ix2 r ⟨n, h⟩) else 0

theorem row_fin {R : ℕ} (x : (⟨2, ![R, 2048]⟩ : Shape).Idx → EReal) (r : Fin R) (n : Fin 2048) :
    row x r n = x (ValueIdx.ix2 r n) := dif_pos n.2

/-- `c` is the first among the largest of the children `8p+1 … 8p+8` of `p` (those below 2048). -/
structure First (X : ℕ → EReal) (p c : ℕ) : Prop where
  lt : c < 2048
  lo : 8 * p + 1 ≤ c
  hi : c ≤ 8 * p + 8
  le : ∀ d, d < 2048 → 8 * p + 1 ≤ d → d ≤ 8 * p + 8 → X d ≤ X c
  first : ∀ d, 8 * p + 1 ≤ d → d < c → X d < X c

/-- A node has at most one first largest child. -/
theorem First.unique {X : ℕ → EReal} {p c c' : ℕ} (h : First X p c) (h' : First X p c') : c = c' := by
  rcases lt_trichotomy c c' with hc | hc | hc
  · exact absurd (h'.first c h.lo hc) (not_lt.2 (h.le c' h'.lt h'.lo h'.hi))
  · exact hc
  · exact absurd (h.first c' h'.lo hc) (not_lt.2 (h'.le c h.lt h.lo h.hi))

/-- What node `p` receives from its parent, whose loss is `a`: all of it where `p`'s target is zero. -/
def up (T : ℕ → EReal) (p : ℕ) (a : EReal) : EReal := if T p = 0 then a else 0

/-- A row's total: the nodes' losses `L`, and what the path `0, p₁, p₂, p₃, p₄` receives, each node from the one before
    it after that one has received; the last only if the path goes on below `p₃`. -/
def rowTotal (L T : ℕ → EReal) (p₁ p₂ p₃ p₄ : ℕ) : EReal :=
  (∑ n : Fin 2048, L n) +
    (up T p₁ (L 0) + up T p₂ (L p₁ + up T p₁ (L 0))
      + up T p₃ (L p₂ + up T p₂ (L p₁ + up T p₁ (L 0)))
      + if p₃ ≤ 255 then up T p₄ (L p₃ + up T p₃ (L p₂ + up T p₂ (L p₁ + up T p₁ (L 0)))) else 0)

/-- The greedy path from the root: each node the first largest child of the one before it; below `p₃` only if that has
    children. -/
structure Path (X : ℕ → EReal) (p₁ p₂ p₃ p₄ : ℕ) : Prop where
  one : First X 0 p₁
  two : First X p₁ p₂
  three : First X p₂ p₃
  four : p₃ ≤ 255 → First X p₃ p₄

/-! ## The window -/

/-- The scores of a window that starts at node `lo` and is looked at for the children at relative positions `8g … 8g+7`:
    their logits, and `-∞` elsewhere. Its maximum is the first largest child's logit, first met at that child. -/
theorem window {X : ℕ → EReal} {W lo p g : ℕ} (hlo : 8 * p + 1 = lo + 8 * g) (hW : lo + W ≤ 2048) (hg : 8 * g < W)
    (hcov : ∀ d, d < 2048 → d ≤ 8 * p + 8 → d < lo + W) (hX : ∀ n, n < 2048 → ⊥ < X n)
    (score : Fin W → EReal) (hs : ∀ j : Fin W, score j = if (j : ℕ) / 8 = g then X (lo + j) else ⊥) :
    ∃ c : Fin W, First X p (lo + c) ∧ Finset.univ.sup score = X (lo + c) ∧ score c = Finset.univ.sup score
      ∧ ∀ j, score j = Finset.univ.sup score → c ≤ j := by
  have hj0 : (8 * g) / 8 = g := by omega
  have hpos : ⊥ < Finset.univ.sup score := by
    refine lt_of_lt_of_le ?_ (Finset.le_sup (f := score) (Finset.mem_univ (⟨8 * g, hg⟩ : Fin W)))
    rw [hs, if_pos hj0]; exact hX _ (by simp only; omega)
  have hex : ∃ c : ℕ, ∃ h : c < W, score ⟨c, h⟩ = Finset.univ.sup score := by
    obtain ⟨j, -, hj⟩ := Finset.exists_mem_eq_sup Finset.univ ⟨(⟨8 * g, hg⟩ : Fin W), Finset.mem_univ _⟩ score
    exact ⟨j, j.2, hj.symm⟩
  classical
  obtain ⟨hc, hcs⟩ := Nat.find_spec hex
  have hmin : ∀ j : Fin W, score j = Finset.univ.sup score → Nat.find hex ≤ j := fun j hj =>
    Nat.find_min' hex ⟨j.2, hj⟩
  generalize Nat.find hex = c at hc hcs hmin
  have hcg : c / 8 = g := by
    by_contra hne
    rw [hs, if_neg hne] at hcs
    exact absurd hcs hpos.ne
  have hXc : score ⟨c, hc⟩ = X (lo + c) := by rw [hs, if_pos hcg]
  have hle : ∀ d, d < 2048 → 8 * p + 1 ≤ d → d ≤ 8 * p + 8 → ∃ h : d - lo < W, score ⟨d - lo, h⟩ = X d := by
    intro d hd h1 h2
    have := hcov d hd h2
    refine ⟨by omega, ?_⟩
    rw [hs, if_pos (by simp only; omega)]; simp only; congr 1; omega
  refine ⟨⟨c, hc⟩, ⟨by simp only; omega, by simp only; omega, by simp only; omega, ?_, ?_⟩, by rw [← hcs, hXc], hcs, hmin⟩
  · intro d hd h1 h2
    obtain ⟨h, e⟩ := hle d hd h1 h2
    rw [← e, ← hXc, hcs]; exact Finset.le_sup (Finset.mem_univ _)
  · intro d h1 h2
    simp only at h2
    obtain ⟨h, e⟩ := hle d (by omega) h1 (by omega)
    rw [← e, ← hXc, hcs]
    refine lt_of_le_of_ne (Finset.le_sup (Finset.mem_univ _)) fun e' => ?_
    have := hmin _ e'
    simp only at this; omega

/-- A signed minimum over a finite set is the value some member takes and every member, and the start, is at least. -/
theorem fold_minsi {ι : Type} (S : Finset ι) (f : ι → BitVec 32) (init v : BitVec 32) (hi : v.toInt ≤ init.toInt)
    (hv : ∃ c ∈ S, f c = v) (hle : ∀ j ∈ S, v.toInt ≤ (f j).toInt) : S.fold IntOp.minsi init f = v := by
  have key : ∀ S : Finset ι, (∀ j ∈ S, (S.fold IntOp.minsi init f).toInt ≤ (f j).toInt)
      ∧ (S.fold IntOp.minsi init f = init ∨ ∃ j ∈ S, S.fold IntOp.minsi init f = f j) := by
    intro S
    induction S using Finset.cons_induction with
    | empty => simp
    | cons a S ha ih =>
      rw [Finset.fold_cons]
      obtain ⟨h1, h2⟩ := ih
      generalize S.fold IntOp.minsi init f = w at h1 h2
      have e : (IntOp.minsi (f a) w).toInt = min (f a).toInt w.toInt := SortNet.toInt_minsi _ _
      refine ⟨fun j hj => ?_, ?_⟩
      · rw [e]
        rcases Finset.mem_cons.1 hj with rfl | hj
        · exact min_le_left _ _
        · exact (min_le_right _ _).trans (h1 j hj)
      · rcases le_total (f a).toInt w.toInt with h | h
        · right; exact ⟨a, Finset.mem_cons_self _ _, BitVec.eq_of_toInt_eq (by rw [e, min_eq_left h])⟩
        · have : IntOp.minsi (f a) w = w := BitVec.eq_of_toInt_eq (by rw [e, min_eq_right h])
          rw [this]
          rcases h2 with h2 | ⟨j, hj, h2⟩
          · exact .inl h2
          · exact .inr ⟨j, Finset.mem_cons_of_mem hj, h2⟩
  obtain ⟨h1, h2⟩ := key S
  obtain ⟨c, hc, rfl⟩ := hv
  refine BitVec.eq_of_toInt_eq (le_antisymm (h1 c hc) ?_)
  rcases h2 with h2 | ⟨j, hj, h2⟩
  · rw [h2]; exact hi
  · rw [h2]; exact hle j hj

/-- The word of a small number reads, signed, as the number. -/
theorem toInt_small {n : ℕ} (h : n < 2 ^ 31) : (BitVec.ofNat 32 n).toInt = n := by
  rw [BitVec.toInt_eq_toNat_cond, BitVec.toNat_ofNat, Nat.mod_eq_of_lt (by omega), if_pos (by omega)]

/-- Small numbers are equal where their words are. -/
theorem ofNat_inj {a b : ℕ} (ha : a < 2 ^ 31) (hb : b < 2 ^ 31) : BitVec.ofNat 32 a = BitVec.ofNat 32 b ↔ a = b := by
  refine ⟨fun h => ?_, fun h => by rw [h]⟩
  have := congrArg BitVec.toInt h
  rw [toInt_small ha, toInt_small hb] at this; omega

/-- The first position of a window at which the score is the maximum, as the least of the positions marked and `W` for
    the others: it is the position `c` which `window` finds. -/
theorem window_index {W : ℕ} (hW : W ≤ 2048) (score : Fin W → EReal) (M : EReal) (c : Fin W) (hc : score c = M)
    (hmin : ∀ j, score j = M → c ≤ j) :
    Finset.univ.fold IntOp.minsi 2147483647#32
      (fun j : Fin W => if score j = M then BitVec.ofNat 32 j else BitVec.ofNat 32 W) = BitVec.ofNat 32 c := by
  have hcl := c.2
  refine fold_minsi _ _ _ _ ?_ ⟨c, Finset.mem_univ _, if_pos hc⟩ fun j _ => ?_
  · rw [toInt_small (by omega)]
    have : (2147483647#32).toInt = 2147483647 := by decide
    rw [this]; omega
  · rw [toInt_small (by omega)]
    have hj := j.2
    split_ifs with h
    · rw [toInt_small (by omega)]; have := hmin j h; exact_mod_cast this
    · rw [toInt_small (by omega)]; omega

/-- The sum that keeps the position `c` alone is the value there. -/
theorem window_pick {W : ℕ} (hW : W ≤ 2048) (t : Fin W → EReal) (c : Fin W) :
    (∑ j : Fin W, if BitVec.ofNat 32 (j : ℕ) = BitVec.ofNat 32 (c : ℕ) then t j else 0) = t c := by
  have : ∀ j : Fin W, (BitVec.ofNat 32 (j : ℕ) = BitVec.ofNat 32 (c : ℕ)) ↔ j = c := fun j => by
    have := j.2; have := c.2
    rw [ofNat_inj (by omega) (by omega), Fin.ext_iff]
  simp [this]

/-! ## The cascade -/

/-- One level of the cascade: the nodes marked add the loss of their parent. -/
def step (C : ℕ → Prop) [DecidablePred C] (par : ℕ → ℕ) (L : ℕ → EReal) : ℕ → EReal :=
  fun n => if C n then L n + L (par n) else L n

/-- A level that marks the child `p` of `q` where its target is zero, and nothing else, gives `p` its share … -/
theorem step_self {C : ℕ → Prop} [DecidablePred C] {par : ℕ → ℕ} {T : ℕ → EReal} {p q : ℕ} (L : ℕ → EReal) (hp : p < 2048)
    (hq : par p = q) (hC : ∀ n, n < 2048 → (C n ↔ n = p ∧ T n = 0)) : step C par L p = L p + up T p (L q) := by
  have := hC p hp
  unfold step up
  by_cases h : T p = 0
  · rw [if_pos (this.2 ⟨rfl, h⟩), if_pos h, hq]
  · rw [if_neg (fun h' => h (this.1 h').2), if_neg h, add_zero]

/-- … leaves every other node … -/
theorem step_other {C : ℕ → Prop} [DecidablePred C] {par : ℕ → ℕ} {T : ℕ → EReal} {p n : ℕ} (L : ℕ → EReal) (hn : n < 2048)
    (hne : n ≠ p) (hC : ∀ n, n < 2048 → (C n ↔ n = p ∧ T n = 0)) : step C par L n = L n :=
  if_neg fun h => hne ((hC n hn).1 h).1

/-- … and adds that share to the sum of the row. -/
theorem step_sum {C : ℕ → Prop} [DecidablePred C] {par : ℕ → ℕ} {T : ℕ → EReal} {p q : ℕ} (L : ℕ → EReal) (hp : p < 2048)
    (hq : par p = q) (hC : ∀ n, n < 2048 → (C n ↔ n = p ∧ T n = 0)) :
    (∑ n : Fin 2048, step C par L n) = (∑ n : Fin 2048, L n) + up T p (L q) := by
  have e : ∀ n : Fin 2048, step C par L n = L n + if n = (⟨p, hp⟩ : Fin 2048) then up T p (L q) else 0 := by
    intro n
    split_ifs with h
    · subst h; exact step_self L hp hq hC
    · rw [add_zero]; exact step_other L n.2 (fun h' => h (Fin.ext h')) hC
  simp only [e, Finset.sum_add_distrib, Finset.sum_ite_eq', Finset.mem_univ, if_true]

/-- A level that marks nothing changes nothing. -/
theorem step_none {C : ℕ → Prop} [DecidablePred C] {par : ℕ → ℕ} (L : ℕ → EReal) (hC : ∀ n, n < 2048 → ¬ C n) :
    (∑ n : Fin 2048, step C par L n) = ∑ n : Fin 2048, L n :=
  Finset.sum_congr rfl fun n _ => if_neg (hC n n.2)

/-- The whole cascade down the path: four levels, each marking the path's node of that level where its target is zero,
    leave a row whose sum is `rowTotal`. -/
theorem cascade {C₁ C₂ C₃ C₄ : ℕ → Prop} [DecidablePred C₁] [DecidablePred C₂] [DecidablePred C₃] [DecidablePred C₄]
    {par : ℕ → ℕ} {L T : ℕ → EReal} {p₁ p₂ p₃ p₄ : ℕ}
    (h₁ : p₁ < p₂) (h₂ : p₂ < p₃) (h₃ : p₃ < 2048) (h₄ : p₃ ≤ 255 → p₃ < p₄ ∧ p₄ < 2048)
    (e₁ : par p₁ = 0) (e₂ : par p₂ = p₁) (e₃ : par p₃ = p₂) (e₄ : p₃ ≤ 255 → par p₄ = p₃)
    (c₁ : ∀ n, n < 2048 → (C₁ n ↔ n = p₁ ∧ T n = 0)) (c₂ : ∀ n, n < 2048 → (C₂ n ↔ n = p₂ ∧ T n = 0))
    (c₃ : ∀ n, n < 2048 → (C₃ n ↔ n = p₃ ∧ T n = 0))
    (c₄ : ∀ n, n < 2048 → (C₄ n ↔ p₃ ≤ 255 ∧ n = p₄ ∧ T n = 0)) :
    (∑ n : Fin 2048, step C₄ par (step C₃ par (step C₂ par (step C₁ par L))) n) = rowTotal L T p₁ p₂ p₃ p₄ := by
  have s₁ : step C₁ par L p₁ = _ := step_self L (by omega) e₁ c₁
  have s₂ : step C₂ par (step C₁ par L) p₂ = _ := step_self _ (by omega) e₂ c₂
  rw [s₁, step_other L (by omega) (by omega) c₁] at s₂
  have s₃ : step C₃ par (step C₂ par (step C₁ par L)) p₃ = _ := step_self _ (by omega) e₃ c₃
  rw [s₂, step_other _ (by omega) (by omega) c₂, step_other L (by omega) (by omega) c₁] at s₃
  have t₃ : (∑ n : Fin 2048, step C₃ par (step C₂ par (step C₁ par L)) n) = _ := step_sum _ (by omega) e₃ c₃
  rw [s₂, step_sum _ (by omega) e₂ c₂, s₁, step_sum _ (by omega) e₁ c₁] at t₃
  unfold rowTotal
  by_cases h : p₃ ≤ 255
  · have c₄' : ∀ n, n < 2048 → (C₄ n ↔ n = p₄ ∧ T n = 0) := fun n hn => (c₄ n hn).trans (and_iff_right h)
    rw [step_sum _ (h₄ h).2 (e₄ h) c₄', s₃, t₃, if_pos h]
    simp only [add_assoc]
  · rw [step_none _ fun n hn h' => h ((c₄ n hn).1 h').1, t₃, if_neg h, add_zero]
    simp only [add_assoc]

end Cert.Tree

end
-- ==== Proof.Scalars.lean ====
/- The scalar facts at the exact values: softplus, spelt three ways, is one function of the extended reals; the constants the
   programs print; the comparisons as conditions. -/
module

public import Idealize.ShloMosaic.PureOps
public import Idealize.ShloMosaic.Lib.ValueIdx
public import Mathlib.Analysis.SpecialFunctions.Log.Basic

@[expose] public section

noncomputable section

namespace Cert.Tree

open Idealize.ShloMosaic

/-- Softplus at the exact values: `log (1 + exp x)`. -/
def sp (x : EReal) : EReal := Ideal.log (1 + Ideal.exp x)

/-- A node's loss: softplus of its logit, less the logit times the target. -/
def nodeLoss (x t : EReal) : EReal := sp x - x * t

theorem sp_coe (r : ℝ) : sp (r : EReal) = ((Real.log (1 + Real.exp r) : ℝ) : EReal) := by
  have h : (1 : EReal) + ((Real.exp r : ℝ) : EReal) = ((1 + Real.exp r : ℝ) : EReal) := by push_cast; rfl
  show Ideal.log (1 + ((Real.exp r : ℝ) : EReal)) = _
  rw [h]
  exact if_neg (by have := Real.exp_pos r; linarith)

theorem sp_bot : sp ⊥ = 0 := by
  show Ideal.log (1 + 0) = 0
  rw [add_zero]
  show Ideal.log ((1 : ℝ) : EReal) = 0
  exact (if_neg (by norm_num)).trans (by simp)

theorem sp_top : sp ⊤ = ⊤ := by
  show Ideal.log (1 + ⊤) = ⊤
  rw [show (1 : EReal) + ⊤ = ⊤ from EReal.add_top_of_ne_bot (by decide)]
  rfl

/-- Through base-2 exponential and logarithm, with the two exact constants `log 2` and its inverse, it is the same
    function. -/
theorem sp_base_two (x : EReal) :
    ((Real.log 2 : ℝ) : EReal) * (Ideal.log (1 + Ideal.exp2 (x * (((Real.log 2)⁻¹ : ℝ) : EReal))) * (((Real.log 2)⁻¹ : ℝ) : EReal)) = sp x := by
  have hl : (0 : ℝ) < Real.log 2 := Real.log_pos (by norm_num)
  have hl' : (0 : ℝ) < (Real.log 2)⁻¹ := inv_pos.2 hl
  have hc : ∀ y : EReal, ((Real.log 2 : ℝ) : EReal) * (y * (((Real.log 2)⁻¹ : ℝ) : EReal)) = y := by
    intro y
    rw [mul_comm y, ← mul_assoc, ← EReal.coe_mul, mul_inv_cancel₀ hl.ne', EReal.coe_one, one_mul]
  rw [hc, sp]
  congr 2
  induction x with
  | bot => rw [EReal.bot_mul_coe_of_pos hl']; rfl
  | top => rw [EReal.top_mul_coe_of_pos hl']; rfl
  | coe r =>
    rw [← EReal.coe_mul]
    show ((Real.rpow 2 (r * (Real.log 2)⁻¹) : ℝ) : EReal) = ((Real.exp r : ℝ) : EReal)
    congr 1
    show (2 : ℝ) ^ (r * (Real.log 2)⁻¹) = Real.exp r
    rw [Real.rpow_def_of_pos (by norm_num)]
    congr 1
    field_simp

/-- Through the larger of the argument and zero, it is the same function. -/
theorem sp_max (x : EReal) : max x 0 + Ideal.log1p (Ideal.exp (-(max (x - 0) (-(x - 0))))) = sp x := by
  rw [sub_zero]
  induction x with
  | bot =>
    rw [sp_bot]
    show max ⊥ 0 + Ideal.log1p (Ideal.exp (-(max ⊥ ⊤))) = 0
    rw [max_eq_right bot_le, max_eq_right bot_le, zero_add]
    exact sp_bot
  | top =>
    rw [sp_top]
    show max ⊤ 0 + Ideal.log1p (Ideal.exp (-(max ⊤ ⊥))) = ⊤
    rw [max_eq_left le_top, max_eq_left le_top]
    show ⊤ + sp ⊥ = ⊤
    rw [sp_bot, add_zero]
  | coe r =>
    have e : -(max (r : EReal) (-(r : EReal))) = ((-|r| : ℝ) : EReal) := by
      rw [← EReal.coe_neg, ← EReal.coe_strictMono.monotone.map_max, ← EReal.coe_neg]; rfl
    rw [e, sp_coe]
    show max (r : EReal) ((0 : ℝ) : EReal) + sp ((-|r| : ℝ) : EReal) = _
    rw [sp_coe, ← EReal.coe_strictMono.monotone.map_max, ← EReal.coe_add]
    congr 1
    rcases le_total 0 r with h | h
    · rw [max_eq_left h, abs_of_nonneg h]
      have : 1 + Real.exp r = Real.exp r * (1 + Real.exp (-r)) := by rw [mul_add, ← Real.exp_add]; simp [add_comm]
      rw [this, Real.log_mul (Real.exp_pos r).ne' (by positivity), Real.log_exp]
    · rw [max_eq_right h, abs_of_nonpos h, neg_neg, zero_add]

theorem ofBits_one : Ideal.ofBits .f32 0x3F800000#32 = 1 := by
  simp [Ideal.ofBits, Ideal.ieee, -EReal.coe_mul]; norm_num

theorem ofBits_zero : Ideal.ofBits .f32 0x00000000#32 = 0 := by simp [Ideal.ofBits, Ideal.ieee]

theorem ofBits_neg_inf : Ideal.ofBits .f32 0xFF800000#32 = ⊥ := by
  simp [Ideal.ofBits, Ideal.ieee]

/-- A select under an equality of floats is the choice on their equality … -/
theorem select_oeq {α : Type} (a b : EReal) (u v : α) :
    Scalar.select (FloatOps.cmpf (F := Ideal) (φ := .f32) .oeq a b) u v = if a = b then u else v := by
  show (if BitVec.ofBool (decide (a = b)) = 1 then u else v) = _
  by_cases h : a = b <;> simp [h]

/-- … and under an equality of words the choice on theirs. -/
theorem select_eq {α : Type} (a b : BitVec 32) (u v : α) :
    Scalar.select (IntOp.cmpi .eq a b) u v = if a = b then u else v := by
  show (if BitVec.ofBool (decide (a = b)) = 1 then u else v) = _
  by_cases h : a = b <;> simp [h]

/-- A small word shifted right by three is the word of the eighth part. -/
theorem shrsi_three {n : ℕ} (h : n < 2048) :
    IntOp.shrsi .vector (BitVec.ofNat 32 n) 3#32 = BitVec.ofNat 32 (n / 8) := by
  have : ∀ n : Fin 2048, IntOp.shrsi .vector (BitVec.ofNat 32 n) 3#32 = BitVec.ofNat 32 (n / 8) := by decide +kernel
  exact this ⟨n, h⟩

end Cert.Tree

end
-- ==== Proof.RefRow.lean ====
/- The reference's walk read at one row: where the parents and the levels are those of the complete 8-ary tree, the nodes that
   take their parent's loss are those of the path of first largest children with target zero. -/
module

public import proofs.«01_k».proof.Proof.Gen.ReferenceIdeal
public import proofs.«01_k».proof.Proof.Tree
public import proofs.«01_k».proof.Proof.Scalars
public import Idealize.ShloMosaic.PureOps.Ideal.Laws
public import Idealize.ShloMosaic.Lib.Pipeline.Value
public import Idealize.ShloMosaic.Lib.ValueIdx
public import Idealize.ShloMosaic.Lib.Routing.OpsOne

@[expose] public section

noncomputable section

namespace Cert.ReferenceIdeal.Row

open Cert.ReferenceIdeal Cert.ReferenceIdeal.Gen Cert.Tree Idealize.ShloMosaic Idealize.ShloMosaic.ValueIdx

/-! ## One bit -/

theorem and_bit (a b : BitVec 1) : IntOp.andi a b = 1#1 ↔ a = 1#1 ∧ b = 1#1 := by revert a b; decide

theorem or_bit (a b : BitVec 1) : IntOp.ori a b = 1#1 ↔ a = 1#1 ∨ b = 1#1 := by revert a b; decide

theorem eq_bit (a b : BitVec 32) : IntOp.cmpi .eq a b = 1#1 ↔ a = b := by
  show BitVec.ofBool (decide (a = b)) = 1#1 ↔ _
  by_cases h : a = b <;> simp [h]

theorem oeq_bit (a b : EReal) : FloatOps.cmpf (F := Ideal) (φ := .f32) .oeq a b = 1#1 ↔ a = b := by
  show BitVec.ofBool (decide (a = b)) = 1#1 ↔ _
  by_cases h : a = b <;> simp [h]

/-- A disjunction over a finite set, from zero, is one where some member is. -/
theorem or_fold {ι : Type} (S : Finset ι) (f : ι → BitVec 1) : S.fold IntOp.ori 0#1 f = 1#1 ↔ ∃ j ∈ S, f j = 1#1 := by
  induction S using Finset.cons_induction with
  | empty => simp
  | cons a S ha ih => rw [Finset.fold_cons, or_bit, ih]; simp

/-! ## Layout -/

section Layout
variable {α : Type}

/-- A vector over the nodes, in every row. -/
def cols (p : S2048.Idx → α) : S16384x2048.Idx → α :=
  broadcastInDim S16384x2048 ![0, 1] bcast_S1x2048_S16384x2048_0_1 (broadcastInDim S1x2048 ![1] bcast_S2048_S1x2048_1 p)

/-- A vector over the rows, at every node. -/
def down (v : S16384.Idx → α) : S16384x2048.Idx → α :=
  broadcastInDim S16384x2048 ![0, 1] bcast_S16384x1_S16384x2048_0_1 (broadcastInDim S16384x1 ![0] bcast_S16384_S16384x1_0 v)

theorem spread_apply (p : S1x2048.Idx → α) (r : Fin 16384) (n : Fin 2048) :
    broadcastInDim S16384x2048 ![0, 1] bcast_S1x2048_S16384x2048_0_1 p (ix2 r n) = p (ix2 0 n) :=
  broadcastInDim_apply _ _ _ _ (ix2 0 n) fun a => by match a with | ⟨0, _⟩ => rfl | ⟨1, _⟩ => rfl

theorem flat_apply (p : S2048.Idx → α) (n : Fin 2048) :
    broadcastInDim S1x2048 ![1] bcast_S2048_S1x2048_1 p (ix2 0 n) = p (ix1 n) :=
  broadcastInDim_apply _ _ _ _ (ix1 n) fun a => by match a with | ⟨0, _⟩ => rfl

theorem cols_apply (p : S2048.Idx → α) (r : Fin 16384) (n : Fin 2048) : cols p (ix2 r n) = p (ix1 n) := by
  unfold cols; rw [spread_apply, flat_apply]

theorem down_apply (v : S16384.Idx → α) (r : Fin 16384) (n : Fin 2048) : down v (ix2 r n) = v (ix1 r) := by
  unfold down
  refine (broadcastInDim_apply _ _ _ _ (ix2 r 0) fun a => by match a with | ⟨0, _⟩ => rfl | ⟨1, _⟩ => rfl).trans ?_
  exact broadcastInDim_apply _ _ _ _ (ix1 r) fun a => by match a with | ⟨0, _⟩ => rfl

theorem tall_apply (p : S2048.Idx → α) (n : Fin 2048) :
    broadcastInDim S2048x1 ![0] bcast_S2048_S2048x1_0 p (ix2 n 0) = p (ix1 n) :=
  broadcastInDim_apply _ _ _ _ (ix1 n) fun a => by match a with | ⟨0, _⟩ => rfl

/-- The gather of whole columns, at an entry: the row's entry in the column which the index word, read signed, names. -/
theorem gather_apply (x : S16384x2048.Idx → α) (idx : IVec S2048x1 32) (r : Fin 16384) (n k : Fin 2048)
    (hk : (idx (ix2 n 0)).toInt = (k : ℕ)) :
    Host.gather gather_S16384x2048_S2048x1_S16384x2048_0_1_n_n_1_1_163841 x idx (ix2 r n) = x (ix2 r k) := by
  unfold Host.gather
  congr 1
  funext a
  refine Fin.ext ?_
  match a with
  | ⟨0, _⟩ =>
    show GatherDims.start _ _ _ 0 + GatherDims.batchCoord _ _ 0 + GatherDims.offCoord _ _ 0 = (r : ℕ)
    rw [GatherDims.batchCoord_eq_zero _ _ _ List.not_mem_nil]
    unfold GatherDims.start GatherDims.offCoord
    rw [dif_neg (by decide), dif_pos (by decide)]
    show 0 + 0 + (r : ℕ) = r
    omega
  | ⟨1, _⟩ =>
    show GatherDims.start _ _ _ 1 + GatherDims.batchCoord _ _ 1 + GatherDims.offCoord _ _ 1 = (k : ℕ)
    rw [GatherDims.batchCoord_eq_zero _ _ _ List.not_mem_nil, GatherDims.offCoord_eq_zero _ _ _ (by decide)]
    unfold GatherDims.start
    rw [dif_pos (by decide)]
    have hsi : ∀ c, GatherDims.siIdx gather_S16384x2048_S2048x1_S16384x2048_0_1_n_n_1_1_163841 (ix2 r n) c = ix2 n 0 := fun c => by
      funext b
      match b with
      | ⟨0, _⟩ => rfl
      | ⟨1, _⟩ => exact Subsingleton.elim (α := Fin 1) _ _
    rw [hsi, hk]
    show min (((k : ℕ) : ℤ).toNat) (2048 - 1) + 0 + 0 = (k : ℕ)
    have := k.2
    rw [Int.toNat_natCast]; omega

end Layout

/-! ## The first largest of a row -/

/-- A left fold that prefers `T` to everything it meets ends at `T`, if it meets it. -/
theorem foldl_best {β : Type} (f : β → β → β) (Worse : β → Prop) (T : β) (hT : ∀ b, b = T ∨ Worse b → f T b = T)
    (hg : ∀ a, Worse a → f a T = T) (hw : ∀ a b, Worse a → Worse b → Worse (f a b)) (L : List β) :
    ∀ a, (∀ b ∈ L, b = T ∨ Worse b) → (a = T ∨ Worse a) → (a = T ∨ T ∈ L) → L.foldl f a = T := by
  induction L with
  | nil => intro a _ _ h; simpa using h
  | cons b L ih =>
    intro a hL ha hm
    rw [List.foldl_cons]
    have hL' : ∀ b ∈ L, b = T ∨ Worse b := fun c hc => hL c (List.mem_cons_of_mem _ hc)
    have hb := hL b List.mem_cons_self
    by_cases haT : a = T
    · rw [haT, hT b hb]; exact ih T hL' (.inl rfl) (.inl rfl)
    · have hwa := ha.resolve_left haT
      by_cases hbT : b = T
      · rw [hbT, hg a hwa]; exact ih T hL' (.inl rfl) (.inl rfl)
      · refine ih _ hL' (.inr (hw a b hwa (hb.resolve_left hbT))) (.inr ?_)
        rcases List.mem_cons.1 (hm.resolve_left haT) with h | h
        · exact absurd h.symm hbT
        · exact h

/-- The printed comparison of two pairs keeps the larger value and, of equal values, the smaller index. -/
theorem reducer_eq (a b : EReal × BitVec 32) :
    reducer_argmax_f32_i32 (F := Ideal) a b = if b.1 < a.1 ∨ (a.1 = b.1 ∧ a.2.toInt < b.2.toInt) then a else b := by
  obtain ⟨u, i⟩ := a
  obtain ⟨v, j⟩ := b
  show (Scalar.select (IntOp.ori (BitVec.ofBool (decide (v < u))) (BitVec.ofBool (decide (u ≠ u)))) u v,
    Scalar.select (IntOp.ori (IntOp.ori (BitVec.ofBool (decide (v < u))) (BitVec.ofBool (decide (u ≠ u))))
      (IntOp.andi (BitVec.ofBool (decide (u = v))) (BitVec.ofBool (i.slt j)))) i j) = _
  have hs : i.slt j = decide (i.toInt < j.toInt) := rfl
  rw [hs]
  rcases lt_trichotomy v u with h | h | h
  · simp [h, IntOp.ori, IntOp.andi, Scalar.select, h.ne', BitVec.ofBool]
  · subst h
    by_cases h' : i.toInt < j.toInt <;> simp [h', IntOp.ori, IntOp.andi, Scalar.select]
  · have h1 : ¬ v < u := not_lt.2 h.le
    have h2 : u ≠ v := h.ne
    cases h3 : decide (i.toInt < j.toInt) <;> simp [h1, h2, IntOp.ori, IntOp.andi, Scalar.select]

theorem mem_fiber {β γ : Type} (x : S16384x2048.Idx → β) (y : S16384x2048.Idx → γ) (r : Fin 16384) (p : β × γ) :
    p ∈ Host.argReduceFiber x y reducesTo_S16384x2048_S16384_d1 (ix1 r) ↔ ∃ k : Fin 2048, p = (x (ix2 r k), y (ix2 r k)) := by
  have hd : ∀ i : S16384x2048.Idx, reducesTo_S16384x2048_S16384_d1.drop i = ix1 r ↔ ∃ k : Fin 2048, i = ix2 r k := fun i => by
    have hv : ((reducesTo_S16384x2048_S16384_d1.drop i) 0 : ℕ) = (i 0 : ℕ) :=
      reducesTo_S16384x2048_S16384_d1.drop_apply_val_of_eq i 0 0
    constructor
    · intro h
      have h0 : (i 0 : ℕ) = r := by rw [← hv, h]
      refine ⟨i 1, ?_⟩
      funext a
      match a with
      | ⟨0, _⟩ => exact Fin.ext h0
      | ⟨1, _⟩ => rfl
    · rintro ⟨k, rfl⟩
      funext a
      match a with
      | ⟨0, _⟩ => exact Fin.ext hv
  unfold Host.argReduceFiber
  simp only [List.mem_map, List.mem_filter, List.mem_finRange, true_and, decide_eq_true_eq]
  constructor
  · rintro ⟨n, hn, rfl⟩
    obtain ⟨k, hk⟩ := (hd _).1 hn
    exact ⟨k, by rw [hk]⟩
  · rintro ⟨k, rfl⟩
    refine ⟨S16384x2048.rowMajor (ix2 r k), ?_, ?_⟩
    · rw [Equiv.symm_apply_apply]; exact (hd _).2 ⟨k, rfl⟩
    · rw [Equiv.symm_apply_apply]

/-- The printed argmax of a row of scores: the first position of their largest value `M`. -/
theorem argmax_apply (s : FVec Ideal S16384x2048 .f32) (r : Fin 16384) (c : Fin 2048) (hM : ⊥ < s (ix2 r c))
    (hle : ∀ k : Fin 2048, k ≠ c → s (ix2 r k) < s (ix2 r c) ∨ (s (ix2 r k) = s (ix2 r c) ∧ c < k)) :
    (Host.argReduce (F := Ideal) reducer_argmax_f32_i32 s (iotaInDim S16384x2048 32 1) (constant S_ .f32 0xFF800000#32)
      (constantI S_ 32 0#32) reducesTo_S16384x2048_S16384_d1 h_S_ (ix1 r)).2 = BitVec.ofNat 32 c := by
  have key : Host.argReduce (F := Ideal) reducer_argmax_f32_i32 s (iotaInDim S16384x2048 32 1) (constant S_ .f32 0xFF800000#32)
      (constantI S_ 32 0#32) reducesTo_S16384x2048_S16384_d1 h_S_ (ix1 r) = (s (ix2 r c), BitVec.ofNat 32 c) := by
    refine (congrFun (Ideal.argReduce_eq_reduce2 _ _ _ _ _ _ _) _).trans ((Host.reduce2_eq_foldl_fiber _ _ _ _ _ _ _ _).trans ?_)
    have hc := c.2
    have hct : (BitVec.ofNat 32 (c : ℕ)).toInt = (c : ℕ) := toInt_small (by omega)
    refine foldl_best _ (fun b => b.1 < s (ix2 r c) ∨ (b.1 = s (ix2 r c) ∧ ((c : ℕ) : ℤ) < b.2.toInt)) _ ?_ ?_ ?_ _ _ ?_ ?_ ?_
    · rintro ⟨v, j⟩ h
      rw [reducer_eq]
      rcases h with h | h | h
      · rw [h, ite_self]
      · exact if_pos (.inl h)
      · exact if_pos (.inr ⟨h.1.symm, by rw [hct]; exact h.2⟩)
    · rintro ⟨v, j⟩ h
      rw [reducer_eq]
      refine if_neg ?_
      rintro (h' | h')
      · rcases h with h | h
        · exact lt_asymm h h'
        · exact absurd h.1.symm h'.ne
      · rcases h with h | h
        · exact h.ne h'.1
        · have h2 := h'.2; have h3 := h.2; simp only [hct] at h2 h3; omega
    · intro a b ha hb
      rw [reducer_eq]; split_ifs
      · exact ha
      · exact hb
    · intro b hb
      obtain ⟨k, rfl⟩ := (mem_fiber _ _ r b).1 hb
      by_cases hk : k = c
      · left; rw [hk]; rfl
      · right
        rcases hle k hk with h | h
        · exact .inl h
        · refine .inr ⟨h.1, ?_⟩
          have hk2 := k.2
          show ((c : ℕ) : ℤ) < (BitVec.ofNat 32 (k : ℕ)).toInt
          rw [toInt_small (by omega)]; exact_mod_cast h.2
    · right; left
      show Ideal.ofBits .f32 0xFF800000#32 < _
      rw [ofBits_neg_inf]; exact hM
    · right; exact (mem_fiber _ _ r _).2 ⟨c, rfl⟩
  rw [key]

/-! ## The walk -/

/-- A node's level in the complete 8-ary tree. -/
def depth (n : ℕ) : ℕ := (if 1 ≤ n then 1 else 0) + (if 9 ≤ n then 1 else 0) + (if 73 ≤ n then 1 else 0) + (if 585 ≤ n then 1 else 0)

theorem depth_iff (n : ℕ) : (depth n = 1 ↔ 1 ≤ n ∧ n ≤ 8) ∧ (depth n = 2 ↔ 9 ≤ n ∧ n ≤ 72) ∧ (depth n = 3 ↔ 73 ≤ n ∧ n ≤ 584)
    ∧ (depth n = 4 ↔ 585 ≤ n) := by
  unfold depth; split_ifs <;> omega

theorem depth_le (n : ℕ) : depth n ≤ 4 := by unfold depth; split_ifs <;> omega

/-- The arguments `par` and `lev` are the parents and the levels of the complete 8-ary tree, the root's parent `-1`. -/
structure IsTree (par lev : IVec S2048 32) : Prop where
  parent : ∀ n : Fin 2048, par (ix1 n) = if (n : ℕ) = 0 then 4294967295#32 else BitVec.ofNat 32 (((n : ℕ) - 1) / 8)
  level : ∀ n : Fin 2048, lev (ix1 n) = BitVec.ofNat 32 (depth n)

/-- The children of each row's current node. -/
def mask (par : IVec S2048 32) (cur : IVec S16384 32) : IVec S16384x2048 1 := cmpi .eq (cols par) (down cur)

/-- Their logits, and `-∞` elsewhere. -/
def scores (x : FVec Ideal S16384x2048 .f32) (par : IVec S2048 32) (cur : IVec S16384 32) : FVec Ideal S16384x2048 .f32 :=
  select (mask par cur) x (broadcastInDim S16384x2048 ![] bcast_S_S16384x2048 (constant S_ .f32 0xFF800000#32))

/-- Whether a row's current node has children. -/
def has (par : IVec S2048 32) (cur : IVec S16384 32) : IVec S16384 1 :=
  Host.reduce IntOp.ori (mask par cur) (constantI S_ 1 0#1) reducesTo_S16384x2048_S16384_d1 h_S_

/-- The next node: the first largest child, if there are children. -/
def next (x : FVec Ideal S16384x2048 .f32) (par : IVec S2048 32) (cur : IVec S16384 32) : IVec S16384 32 :=
  select (has par cur) (fun j => (Host.argReduce (F := Ideal) reducer_argmax_f32_i32 (scores x par cur) (iotaInDim S16384x2048 32 1)
    (constant S_ .f32 0xFF800000#32) (constantI S_ 32 0#32) reducesTo_S16384x2048_S16384_d1 h_S_ j).2) cur

/-- The path's marks with the next node `nxt` added, where the current node has children. -/
def mark (par : IVec S2048 32) (cur nxt : IVec S16384 32) (marks : FVec Ideal S16384x2048 .f32) : FVec Ideal S16384x2048 .f32 :=
  select (andi (down (has par cur)) (cmpi .eq (cols (iotaInDim S2048 32 0)) (down nxt)))
    (broadcastInDim S16384x2048 ![] bcast_S_S16384x2048 (id (constant S_ .f32 0x3F800000#32))) marks

/-- The walk's start: every row at the root … -/
def start : IVec S16384 32 := broadcastInDim S16384 ![] bcast_S_S16384 (constantI S_ 32 0#32)

/-- … which alone is marked. -/
def rootMark : FVec Ideal S16384x2048 .f32 :=
  Host.scatter scatter_S16384x2048_S1_S16384_0_1_1_0 (fun _ b => b)
    (broadcastInDim S16384x2048 ![] bcast_S_S16384x2048 (constant S_ .f32 0x00000000#32))
    (broadcastInDim S1 ![] bcast_S_S1 (constantI S_ 32 0#32)) (broadcastInDim S16384 ![] bcast_S_S16384 (constant S_ .f32 0x3F800000#32))

section Walk
variable {par lev : IVec S2048 32} (ht : IsTree par lev) {cur : IVec S16384 32} {r : Fin 16384} {p : ℕ} (hp : p < 2048)
  (hcur : cur (ix1 r) = BitVec.ofNat 32 p)

include ht hp hcur in
theorem mask_apply (n : Fin 2048) : mask par cur (ix2 r n) = 1#1 ↔ 8 * p + 1 ≤ (n : ℕ) ∧ (n : ℕ) ≤ 8 * p + 8 := by
  show IntOp.cmpi .eq (cols par (ix2 r n)) (down cur (ix2 r n)) = 1#1 ↔ _
  rw [eq_bit, cols_apply, down_apply, ht.parent, hcur]
  have hn := n.2
  split_ifs with h0
  · rw [show (4294967295#32 : BitVec 32) = BitVec.ofNat 32 4294967295 from rfl]
    constructor
    · intro h
      have := congrArg BitVec.toNat h
      rw [BitVec.toNat_ofNat, BitVec.toNat_ofNat, Nat.mod_eq_of_lt (by omega), Nat.mod_eq_of_lt (by omega)] at this
      omega
    · intro h; omega
  · rw [ofNat_inj (by omega) (by omega)]; omega

include ht hp hcur in
theorem has_apply : has par cur (ix1 r) = 1#1 ↔ p ≤ 255 := by
  have e : has par cur (ix1 r) = (Finset.univ : Finset (Fin 2048)).fold IntOp.ori 0#1 fun k => mask par cur (ix2 r k) := by
    refine (Host.reduce_eq_fold_single IntOp.ori _ _ _ (by decide : S16384x2048.Reduces [1] S16384) _ _).trans ?_
    refine Finset.fold_congr fun (k : Fin 2048) _ => congrArg (mask par cur) ?_
    funext c
    match c with
    | ⟨0, _⟩ => rfl
    | ⟨1, _⟩ => rfl
  rw [e, or_fold]
  constructor
  · rintro ⟨k, -, hk⟩
    have := (mask_apply ht hp hcur k).1 hk; have := k.2; omega
  · intro h
    exact ⟨⟨8 * p + 1, by omega⟩, Finset.mem_univ _, (mask_apply ht hp hcur _).2 ⟨le_rfl, by simp only; omega⟩⟩

include ht hp hcur in
theorem scores_apply (x : FVec Ideal S16384x2048 .f32) (n : Fin 2048) :
    scores x par cur (ix2 r n) = if 8 * p + 1 ≤ (n : ℕ) ∧ (n : ℕ) ≤ 8 * p + 8 then x (ix2 r n) else ⊥ := by
  show (if mask par cur (ix2 r n) = 1#1 then x (ix2 r n) else Ideal.ofBits .f32 0xFF800000#32) = _
  rw [ofBits_neg_inf]
  exact if_congr (mask_apply ht hp hcur n) rfl rfl

include ht hp hcur in
/-- One step of the walk goes to the first largest child. -/
theorem next_apply (x : FVec Ideal S16384x2048 .f32) (hX : ∀ n, n < 2048 → ⊥ < row x r n) {c : ℕ} (hc : First (row x r) p c) :
    next x par cur (ix1 r) = BitVec.ofNat 32 c := by
  have hlo := hc.lo; have hhi := hc.hi; have hlt := hc.lt
  have hh : has par cur (ix1 r) = 1#1 := (has_apply ht hp hcur).2 (by omega)
  have e : next x par cur (ix1 r) = Scalar.select (has par cur (ix1 r)) ((Host.argReduce (F := Ideal) reducer_argmax_f32_i32
    (scores x par cur) (iotaInDim S16384x2048 32 1) (constant S_ .f32 0xFF800000#32) (constantI S_ 32 0#32)
    reducesTo_S16384x2048_S16384_d1 h_S_ (ix1 r)).2) (cur (ix1 r)) := rfl
  rw [e, hh]
  refine (if_pos rfl).trans ?_
  have hs := scores_apply ht hp hcur x
  have hsc : scores x par cur (ix2 r ⟨c, hlt⟩) = row x r c := by
    rw [hs, if_pos ⟨hlo, hhi⟩, ← row_fin x]
  refine argmax_apply _ r ⟨c, hlt⟩ (by rw [hsc]; exact hX c hlt) fun k hk => ?_
  rw [hsc, hs]
  have hkc : (k : ℕ) ≠ c := fun h => hk (Fin.ext h)
  split_ifs with h
  · rw [← row_fin x]
    rcases lt_or_gt_of_ne hkc with h' | h'
    · exact .inl (hc.first k h.1 h')
    · rcases (hc.le k k.2 h.1 h.2).lt_or_eq with h'' | h''
      · exact .inl h''
      · exact .inr ⟨h'', h'⟩
  · exact .inl (hX c hlt)

include ht hp hcur in
theorem mark_apply {nxt : IVec S16384 32} {q : ℕ} (hq : p ≤ 255 → nxt (ix1 r) = BitVec.ofNat 32 q ∧ q < 2048)
    (marks : FVec Ideal S16384x2048 .f32) (n : Fin 2048) :
    mark par cur nxt marks (ix2 r n) = if p ≤ 255 ∧ (n : ℕ) = q then 1 else marks (ix2 r n) := by
  have hn := n.2
  show (if IntOp.andi (down (has par cur) (ix2 r n)) (IntOp.cmpi .eq (cols (iotaInDim S2048 32 0) (ix2 r n)) (down nxt (ix2 r n))) = 1#1
    then Ideal.ofBits .f32 0x3F800000#32 else marks (ix2 r n)) = _
  rw [ofBits_one]
  refine if_congr ?_ rfl rfl
  rw [and_bit, down_apply, has_apply ht hp hcur, eq_bit, cols_apply, down_apply]
  refine and_congr_right fun h => ?_
  rw [(hq h).1]
  show BitVec.ofNat 32 (n : ℕ) = BitVec.ofNat 32 q ↔ _
  exact ofNat_inj (by omega) (by have := (hq h).2; omega)

end Walk

theorem rootMark_apply (r : Fin 16384) (n : Fin 2048) (hn : (n : ℕ) ≠ 0) : rootMark (ix2 r n) = 0 := by
  unfold rootMark
  refine (Routing.scatter_set_miss _ _ _ _ _ fun k hk => hn ?_).trans ofBits_zero
  have hidx : ((broadcastInDim S1 ![] bcast_S_S1 (constantI S_ 32 0#32)) (ix1 0)).toInt = (((0 : Fin 2048) : ℕ) : ℤ) := rfl
  have := (Routing.lands_col scatter_S16384x2048_S1_S16384_0_1_1_0 rfl rfl _ (0 : Fin 2048) hidx (k 0) r n).1
    ((congrArg (fun t => ScatterDims.resultIdx? scatter_S16384x2048_S1_S16384_0_1_1_0 t _) (eq_ix1 k).symm).trans hk)
  rw [this.2]; rfl

section Row
variable (x t : FVec Ideal S16384x2048 .f32) (par lev : IVec S2048 32)

/-- The nodes of the walk. -/
def c₁ : IVec S16384 32 := next x par start
def c₂ : IVec S16384 32 := next x par (c₁ x par)
def c₃ : IVec S16384 32 := next x par (c₂ x par)
def c₄ : IVec S16384 32 := next x par (c₃ x par)

/-- The path's marks. -/
def marks : FVec Ideal S16384x2048 .f32 :=
  mark par (c₃ x par) (c₄ x par) (mark par (c₂ x par) (c₃ x par) (mark par (c₁ x par) (c₂ x par) (mark par start (c₁ x par) rootMark)))

/-- The nodes that take their parent's loss: on the path, of target zero, not the root. -/
def takes : IVec S16384x2048 1 :=
  andi (andi (cmpf .oeq (marks x par) (broadcastInDim S16384x2048 ![] bcast_S_S16384x2048 (constant S_ .f32 0x3F800000#32)))
      (cmpf .oeq t (broadcastInDim S16384x2048 ![] bcast_S_S16384x2048 (constant S_ .f32 0x00000000#32))))
    (cols (cmpi .sge par (broadcastInDim S2048 ![] bcast_S_S2048 (constantI S_ 32 0#32))))

variable {x t par lev}
variable (ht : IsTree par lev) {r : Fin 16384} (hX : ∀ n, n < 2048 → ⊥ < row x r n) {p₁ p₂ p₃ p₄ : ℕ} (hP : Path (row x r) p₁ p₂ p₃ p₄)

include ht in
theorem sge_apply (n : Fin 2048) :
    cmpi .sge par (broadcastInDim S2048 ![] bcast_S_S2048 (constantI S_ 32 0#32)) (ix1 n) = 1#1 ↔ 1 ≤ (n : ℕ) := by
  show IntOp.cmpi .sge (par (ix1 n)) 0#32 = 1#1 ↔ _
  rw [ht.parent]
  have hn := n.2
  have hsge : ∀ a : BitVec 32, IntOp.cmpi .sge a 0#32 = BitVec.ofBool (decide ((0#32).toInt ≤ a.toInt)) := fun _ => rfl
  rw [hsge, show (0#32 : BitVec 32).toInt = 0 from rfl]
  split_ifs with h
  · rw [show (4294967295#32 : BitVec 32).toInt = -1 from rfl, h]
    simp
  · rw [toInt_small (by omega), decide_eq_true (Int.natCast_nonneg _)]
    exact ⟨fun _ => by omega, fun _ => rfl⟩

theorem and_at {s : Shape} (a b : IVec s 1) (i : s.Idx) : andi a b i = 1#1 ↔ a i = 1#1 ∧ b i = 1#1 := and_bit _ _

theorem oeq_at {s : Shape} (a b : FVec Ideal s .f32) (i : s.Idx) : cmpf .oeq a b i = 1#1 ↔ a i = b i := oeq_bit _ _

/-- A constant, at every entry. -/
theorem const_at (b : BitVec 32) (i : S16384x2048.Idx) :
    broadcastInDim S16384x2048 ![] bcast_S_S16384x2048 (constant (F := Ideal) S_ .f32 b) i = Ideal.ofBits .f32 b := rfl

theorem takes_iff (n : Fin 2048) : takes x t par (ix2 r n) = 1#1 ↔ (marks x par (ix2 r n) = 1 ∧ t (ix2 r n) = 0)
    ∧ cmpi .sge par (broadcastInDim S2048 ![] bcast_S_S2048 (constantI S_ 32 0#32)) (ix1 n) = 1#1 := by
  unfold takes
  rw [and_at, and_at, oeq_at, oeq_at, cols_apply, const_at, const_at, ofBits_one, ofBits_zero]

theorem start_apply : start (ix1 r) = BitVec.ofNat 32 0 := by
  unfold start
  exact broadcastInDim_apply _ _ _ _ (fun a => a.elim0) fun a => a.elim0

include ht hX hP in
/-- The walk's nodes are the path's. -/
theorem walk_apply : c₁ x par (ix1 r) = BitVec.ofNat 32 p₁ ∧ c₂ x par (ix1 r) = BitVec.ofNat 32 p₂
    ∧ c₃ x par (ix1 r) = BitVec.ofNat 32 p₃ ∧ (p₃ ≤ 255 → c₄ x par (ix1 r) = BitVec.ofNat 32 p₄ ∧ p₄ < 2048) := by
  have e₁ : c₁ x par (ix1 r) = BitVec.ofNat 32 p₁ := by
    unfold c₁; exact next_apply ht (by omega) start_apply x hX hP.one
  have e₂ : c₂ x par (ix1 r) = BitVec.ofNat 32 p₂ := by
    unfold c₂; exact next_apply ht hP.one.lt e₁ x hX hP.two
  have e₃ : c₃ x par (ix1 r) = BitVec.ofNat 32 p₃ := by
    unfold c₃; exact next_apply ht hP.two.lt e₂ x hX hP.three
  refine ⟨e₁, e₂, e₃, fun h => ⟨?_, (hP.four h).lt⟩⟩
  unfold c₄; exact next_apply ht hP.three.lt e₃ x hX (hP.four h)

include ht in
theorem marks_of {u₁ u₂ u₃ u₄ : IVec S16384 32} (h₁ : p₁ ≤ 255) (h₂ : p₂ ≤ 255) (h₃ : p₃ < 2048)
    (e₁ : u₁ (ix1 r) = BitVec.ofNat 32 p₁) (e₂ : u₂ (ix1 r) = BitVec.ofNat 32 p₂) (e₃ : u₃ (ix1 r) = BitVec.ofNat 32 p₃)
    (e₄ : p₃ ≤ 255 → u₄ (ix1 r) = BitVec.ofNat 32 p₄ ∧ p₄ < 2048) (n : Fin 2048) (hn : 1 ≤ (n : ℕ)) :
    mark par u₃ u₄ (mark par u₂ u₃ (mark par u₁ u₂ (mark par start u₁ rootMark))) (ix2 r n)
      = if p₃ ≤ 255 ∧ (n : ℕ) = p₄ then 1 else if (n : ℕ) = p₃ then 1 else if (n : ℕ) = p₂ then 1 else if (n : ℕ) = p₁ then 1 else 0 := by
  rw [mark_apply ht h₃ e₃ e₄, mark_apply ht (by omega) e₂ fun _ => ⟨e₃, h₃⟩, mark_apply ht (by omega) e₁ fun _ => ⟨e₂, by omega⟩,
    mark_apply ht (by omega : 0 < 2048) start_apply fun _ => ⟨e₁, by omega⟩, rootMark_apply r n (by omega)]
  simp only [h₁, h₂, Nat.zero_le, true_and]

/-- A choice of one or zero is one where one of the conditions holds. -/
theorem marked_iff (a b c d : Prop) [Decidable a] [Decidable b] [Decidable c] [Decidable d] :
    (if a then (1 : EReal) else if b then 1 else if c then 1 else if d then 1 else 0) = 1 ↔ d ∨ c ∨ b ∨ a := by
  have h01 : (0 : EReal) ≠ 1 := zero_ne_one
  split_ifs <;> simp [*]

include ht hX hP in
theorem marks_apply (n : Fin 2048) (hn : 1 ≤ (n : ℕ)) : marks x par (ix2 r n) = 1
    ↔ ((n : ℕ) = p₁ ∨ (n : ℕ) = p₂ ∨ (n : ℕ) = p₃ ∨ (p₃ ≤ 255 ∧ (n : ℕ) = p₄)) := by
  have l₁ := hP.one.hi
  have l₂ := hP.two.hi
  obtain ⟨e₁, e₂, e₃, e₄⟩ := walk_apply ht hX hP
  unfold marks
  rw [marks_of ht (by omega) (by omega) hP.three.lt e₁ e₂ e₃ e₄ n hn, marked_iff]

include ht hX hP in
/-- The nodes that take: the path's below the root, of target zero. -/
theorem takes_apply (n : Fin 2048) : takes x t par (ix2 r n) = 1#1
    ↔ row t r n = 0 ∧ 1 ≤ (n : ℕ) ∧ ((n : ℕ) = p₁ ∨ (n : ℕ) = p₂ ∨ (n : ℕ) = p₃ ∨ (p₃ ≤ 255 ∧ (n : ℕ) = p₄)) := by
  rw [takes_iff, sge_apply ht, row_fin]
  constructor
  · rintro ⟨⟨h1, h2⟩, h3⟩; exact ⟨h2, h3, (marks_apply ht hX hP n h3).1 h1⟩
  · rintro ⟨h2, h3, h1⟩; exact ⟨⟨(marks_apply ht hX hP n h3).2 h1, h2⟩, h3⟩

end Row

end Cert.ReferenceIdeal.Row

end
-- ==== Proof.Given.lean ====
/- What the precondition says: the parents and the levels are those of the complete 8-ary tree, and no logit is `-∞`. -/
module

public import proofs.«01_k».proof.Proof.Gen.Pre_tree_inputs
public import proofs.«01_k».proof.Proof.RefRow
public import Idealize.ShloMosaic.Lib.ReduceAll

@[expose] public section

noncomputable section

namespace Cert.Pre_tree_inputs.Given

open Cert.Pre_tree_inputs Cert.Pre_tree_inputs.Gen Cert.Tree Idealize.ShloMosaic Idealize.ShloMosaic.ValueIdx
open Cert.ReferenceIdeal.Row (IsTree depth eq_bit and_bit)

/-- A number, everywhere. -/
def all (b : BitVec 32) : IVec S2048 32 := broadcastInDim S2048 ![] bcast_S_S2048 (constantI S_ 32 b)

/-- The tree's parents: `-1` at the root, and the eighth part of the position less one elsewhere. -/
def parents : IVec S2048 32 :=
  select (cmpi .eq (iotaInDim S2048 32 0) (all 0#32)) (broadcastInDim S2048 ![] bcast_S_S2048 (id (constantI S_ 32 4294967295#32)))
    (Host.shrsi (subi (iotaInDim S2048 32 0) (all 1#32)) (all 3#32))

/-- One where the position is at least `b`. -/
def atLeast (b : BitVec 32) : IVec S2048 32 := extui 32 (cmpi .sge (iotaInDim S2048 32 0) (all b)) natLt_1_32

/-- The tree's levels, counting the starts passed. -/
def levels : IVec S2048 32 := addi (addi (addi (atLeast 1#32) (atLeast 9#32)) (atLeast 73#32)) (atLeast 585#32)

theorem parents_apply (n : Fin 2048) :
    parents (ix1 n) = if (n : ℕ) = 0 then 4294967295#32 else BitVec.ofNat 32 (((n : ℕ) - 1) / 8) := by
  have e : parents (ix1 n) = Scalar.select (IntOp.cmpi .eq (BitVec.ofNat 32 n) 0#32) 4294967295#32
      (IntOp.shrsi .host (IntOp.subi (BitVec.ofNat 32 n) 1#32) 3#32) := rfl
  rw [e]
  revert n
  decide +kernel

theorem levels_apply (n : Fin 2048) : levels (ix1 n) = BitVec.ofNat 32 (depth n) := by
  have e : levels (ix1 n) = IntOp.addi (IntOp.addi (IntOp.addi (BitVec.setWidth 32 (IntOp.cmpi .sge (BitVec.ofNat 32 n) 1#32))
      (BitVec.setWidth 32 (IntOp.cmpi .sge (BitVec.ofNat 32 n) 9#32))) (BitVec.setWidth 32 (IntOp.cmpi .sge (BitVec.ofNat 32 n) 73#32)))
      (BitVec.setWidth 32 (IntOp.cmpi .sge (BitVec.ofNat 32 n) 585#32)) := rfl
  rw [e]
  revert n
  decide +kernel

/-- The precondition is its three parts. -/
theorem fn_eq (x t : FVec Ideal S16384x2048 .f32) (par lev : IVec S2048 32) (j : S_.Idx) :
    fn (F := Ideal) x t par lev j = IntOp.andi
      (IntOp.andi (Host.reduce IntOp.andi (cmpi .eq par parents) (constantI S_ 1 1#1) reducesTo_S2048_S_d0 h_S_ j)
        (Host.reduce IntOp.andi (cmpi .eq lev levels) (constantI S_ 1 1#1) reducesTo_S2048_S_d0 h_S_ j))
      (Host.reduce IntOp.andi (cmpf .ogt x (broadcastInDim S16384x2048 ![] bcast_S_S16384x2048 (constant (F := Ideal) S_ .f32 0xFF800000#32)))
        (constantI S_ 1 1#1) reducesTo_S16384x2048_S_d0_1 h_S_ j) := rfl

theorem ogt_bit (a b : EReal) : FloatOps.cmpf (F := Ideal) (φ := .f32) .ogt a b = 1#1 ↔ b < a := by
  show BitVec.ofBool (decide (b < a)) = 1#1 ↔ _
  by_cases h : b < a <;> simp [h]

theorem given {x t : FVec Ideal S16384x2048 .f32} {par lev : IVec S2048 32} (h : fn (F := Ideal) x t par lev = fun _ => 1#1) :
    IsTree par lev ∧ ∀ i, ⊥ < x i := by
  have hs : Subsingleton S_.Idx := ⟨fun a b => funext fun k => k.elim0⟩
  have h0 := congrFun h (fun a => a.elim0)
  rw [fn_eq, and_bit, and_bit] at h0
  obtain ⟨⟨hp, hl⟩, hx⟩ := h0
  refine ⟨⟨fun n => ?_, fun n => ?_⟩, fun i => ?_⟩
  · exact ((eq_bit _ _).1 (Host.reduce_andi_all _ _ _ _ _ hp (ix1 n))).trans (parents_apply n)
  · exact ((eq_bit _ _).1 (Host.reduce_andi_all _ _ _ _ _ hl (ix1 n))).trans (levels_apply n)
  · have := (ogt_bit _ _).1 (Host.reduce_andi_all _ _ _ _ _ hx i)
    exact lt_of_eq_of_lt ofBits_neg_inf.symm this

end Cert.Pre_tree_inputs.Given

end
-- ==== Proof.KerRow.lean ====
/- The kernel's body, read at one row of a block: one window is a piece of the row, read once for every width, and the four
   windows walk the greedy path; so a block's value is the sum over its rows of `rowTotal`. -/
module

public import proofs.«01_k».proof.Proof.Gen.KernelIdeal
public import proofs.«01_k».proof.Proof.Gen.KernelIdeal.Skeleton
public import proofs.«01_k».proof.Proof.Gen.KernelIdeal.Frame
public import proofs.«01_k».proof.Proof.Tree
public import proofs.«01_k».proof.Proof.Scalars
public import Idealize.ShloMosaic.PureOps.Ideal.Laws
public import Idealize.ShloMosaic.Lib.Pipeline.Value
public import Idealize.ShloMosaic.Lib.ValueIdx

@[expose] public section

noncomputable section

namespace Cert.KernelIdeal.Row

open Cert.KernelIdeal Cert.KernelIdeal.Gen Cert.Tree Idealize.ShloMosaic Idealize.ShloMosaic.ValueIdx

/-! ## Layout, at any width -/

section Layout
variable {R W : ℕ} {α : Type}

theorem lift_row (h : Shape.Reduces ⟨2, ![R, W]⟩ [1] ⟨1, ![R]⟩) (r : Fin R) (k : Fin W) : h.lift (ix1 r) k = ix2 r k := by
  funext c
  match c with
  | ⟨0, _⟩ => rfl
  | ⟨1, _⟩ => rfl

theorem column_apply (v : (⟨1, ![R]⟩ : Shape).Idx → α) (h : Shape.ShapeCasts ⟨1, ![R]⟩ ⟨2, ![R, 1]⟩) (r : Fin R) :
    shapeCast ⟨2, ![R, 1]⟩ v h (ix2 r 0) = v (ix1 r) :=
  shapeCast_apply v h _ _ (by
    rw [Shape.rowMajor_val_one, Shape.rowMajor_val_two]; show (r : ℕ) = (r : ℕ) * 1 + 0; omega)

theorem spread_apply (v : (⟨2, ![R, 1]⟩ : Shape).Idx → α) (h : Shape.Broadcasts ⟨2, ![R, 1]⟩ ⟨2, ![R, W]⟩) (r : Fin R) (k : Fin W) :
    broadcastTo ⟨2, ![R, W]⟩ v h (ix2 r k) = v (ix2 r 0) :=
  broadcastTo_apply v h _ _ fun a => by
    match a with
    | ⟨0, _⟩ =>
      show (r : ℕ) = if R = 1 then 0 else (r : ℕ)
      split_ifs with h1
      · have := r.2; omega
      · rfl
    | ⟨1, _⟩ => rfl

end Layout

/-- What the printed operations of a window of width `W` that starts at node `lo` take. -/
structure Win (W lo : ℕ) : Prop where
  fits : lo + W ≤ 2048
  slices : Shape.Slices ⟨2, ![256, 2048]⟩ ![0, lo] ⟨2, ![256, W]⟩
  iotas : Shape.Iotas ⟨2, ![256, W]⟩ .tc 32 [1]
  spreads : Shape.Broadcasts ⟨2, ![256, 1]⟩ ⟨2, ![256, W]⟩
  reduces : Shape.Reduces ⟨2, ![256, W]⟩ [1] ⟨1, ![256]⟩

section Window
variable {W lo : ℕ} (w : Win W lo)

/-- The window's piece of a block. -/
def piece (x : FVec Ideal S256x2048 .f32) : FVec Ideal ⟨2, ![256, W]⟩ .f32 := extractStridedSlice ⟨2, ![256, W]⟩ ![0, lo] x w.slices

/-- The window's positions. -/
def place : IVec ⟨2, ![256, W]⟩ 32 := iota .tc ⟨2, ![256, W]⟩ 32 [1] w.iotas

/-- The logits where the position's eighth part is the row's group, `-∞` elsewhere. -/
def scores (x : FVec Ideal S256x2048 .f32) (g : IVec S256x1 32) : FVec Ideal ⟨2, ![256, W]⟩ .f32 :=
  select (cmpi .eq (shrsi (place w) (broadcast ⟨2, ![256, W]⟩ 3#32)) (broadcastTo ⟨2, ![256, W]⟩ g w.spreads)) (piece w x)
    (broadcast ⟨2, ![256, W]⟩ (Scalar.ofBits .f32 0xFF800000#32))

/-- Each row's largest score. -/
def top (s : FVec Ideal ⟨2, ![256, W]⟩ .f32) : FVec Ideal S256x1 .f32 :=
  shapeCast S256x1 (multiReduction .maximumf [1] S256 s 0xFF800000#32 w.reduces (.inl rfl) rfl) shapeCasts_S256_S256x1

/-- Where each row's largest score is first met. -/
def first (s : FVec Ideal ⟨2, ![256, W]⟩ .f32) : IVec S256x1 32 :=
  shapeCast S256x1 (multiReductionI .minsi [1] S256 (select (cmpf .oeq s (broadcastTo ⟨2, ![256, W]⟩ (top w s) w.spreads)) (place w)
    (broadcast ⟨2, ![256, W]⟩ (BitVec.ofNat 32 W))) 2147483647#32 w.reduces rfl) shapeCasts_S256_S256x1

/-- Each row's target there. -/
def target (t : FVec Ideal S256x2048 .f32) (i : IVec S256x1 32) : FVec Ideal S256x1 .f32 :=
  shapeCast S256x1 (multiReduction .add [1] S256 (select (cmpi .eq (place w) (broadcastTo ⟨2, ![256, W]⟩ i w.spreads)) (piece w t)
    (broadcast ⟨2, ![256, W]⟩ (Scalar.ofBits .f32 0x00000000#32))) 0x00000000#32 w.reduces (.inl rfl) rfl) shapeCasts_S256_S256x1

theorem piece_apply (x : FVec Ideal S256x2048 .f32) (r : Fin 256) (k : Fin W) : piece w x (ix2 r k) = row x r (lo + k) := by
  have hk : lo + (k : ℕ) < 2048 := by have := k.2; have := w.fits; omega
  rw [row, dif_pos hk]
  exact extractStridedSlice_apply _ _ _ _ _ fun a => by
    match a with
    | ⟨0, _⟩ => show (r : ℕ) = 0 + (r : ℕ); omega
    | ⟨1, _⟩ => rfl

theorem place_apply (r : Fin 256) (k : Fin W) : place w (ix2 r k) = BitVec.ofNat 32 k :=
  iota_single_apply _ _ _ _ _ _

theorem scores_apply (x : FVec Ideal S256x2048 .f32) (gv : IVec S256x1 32) (r : Fin 256) (g : ℕ) (hg : g < 2 ^ 31)
    (hgv : gv (ix2 r 0) = BitVec.ofNat 32 g) (k : Fin W) :
    scores w x gv (ix2 r k) = if (k : ℕ) / 8 = g then row x r (lo + k) else ⊥ := by
  have hk := k.2
  have := w.fits
  show Scalar.select (IntOp.cmpi .eq (IntOp.shrsi .vector (place w (ix2 r k)) 3#32) (broadcastTo ⟨2, ![256, W]⟩ gv w.spreads (ix2 r k)))
    (piece w x (ix2 r k)) (Ideal.ofBits .f32 0xFF800000#32) = _
  rw [place_apply, shrsi_three (by omega), spread_apply, hgv, select_eq, piece_apply, ofBits_neg_inf]
  simp only [ofNat_inj (show (k : ℕ) / 8 < 2 ^ 31 by omega) hg]

theorem top_apply (s : FVec Ideal ⟨2, ![256, W]⟩ .f32) (r : Fin 256) :
    top w s (ix2 r 0) = Finset.univ.sup fun k : Fin W => s (ix2 r k) := by
  refine (column_apply _ _ r).trans ?_
  refine (Ideal.multiReduction_maximumf_single _ _ _ _ _ _).trans ?_
  show Finset.univ.fold max (Ideal.ofBits .f32 0xFF800000#32) (s ∘ w.reduces.lift (ix1 r)) = _
  rw [ofBits_neg_inf]
  have : (s ∘ w.reduces.lift (ix1 r)) = fun k : Fin W => s (ix2 r k) := funext fun k => congrArg s (lift_row w.reduces r k)
  rw [this]; rfl

theorem first_apply (s : FVec Ideal ⟨2, ![256, W]⟩ .f32) (r : Fin 256) :
    first w s (ix2 r 0) = Finset.univ.fold IntOp.minsi 2147483647#32
      (fun k : Fin W => if s (ix2 r k) = (Finset.univ.sup fun k : Fin W => s (ix2 r k)) then BitVec.ofNat 32 k else BitVec.ofNat 32 W) := by
  refine (column_apply _ _ r).trans ?_
  refine (multiReductionI_eq_fold _ _ _ _ _ _).trans ?_
  refine (w.reduces.fold_filter_drop_single _ _ _ _).trans ?_
  refine Finset.fold_congr fun (k : Fin W) _ => ?_
  refine (congrArg _ (lift_row w.reduces r k)).trans ?_
  show Scalar.select (FloatOps.cmpf .oeq (s (ix2 r k)) (broadcastTo ⟨2, ![256, W]⟩ (top w s) w.spreads (ix2 r k)))
    (place w (ix2 r k)) (BitVec.ofNat 32 W) = _
  rw [select_oeq, spread_apply, top_apply, place_apply]

theorem target_apply (t : FVec Ideal S256x2048 .f32) (i : IVec S256x1 32) (r : Fin 256) :
    target w t i (ix2 r 0) = ∑ k : Fin W, if BitVec.ofNat 32 (k : ℕ) = i (ix2 r 0) then row t r (lo + k) else 0 := by
  refine (column_apply _ _ r).trans ?_
  refine (Ideal.multiReduction_add_single _ _ _ _ _ _).trans ?_
  refine Finset.sum_congr rfl fun (k : Fin W) _ => ?_
  refine (congrArg _ (lift_row w.reduces r k)).trans ?_
  show Scalar.select (IntOp.cmpi .eq (place w (ix2 r k)) (broadcastTo ⟨2, ![256, W]⟩ i w.spreads (ix2 r k)))
    (piece w t (ix2 r k)) (Ideal.ofBits .f32 0x00000000#32) = _
  rw [select_eq, spread_apply, place_apply, piece_apply, ofBits_zero]

/-- One level: where the row's group is the one of node `p`'s children, the window's maximum, its position and the target
    there are those of `p`'s first largest child. -/
theorem level (x t : FVec Ideal S256x2048 .f32) (gv : IVec S256x1 32) (r : Fin 256) {p g : ℕ} (hgv : gv (ix2 r 0) = BitVec.ofNat 32 g)
    (hlo : 8 * p + 1 = lo + 8 * g) (hg : 8 * g < W) (hcov : ∀ d, d < 2048 → d ≤ 8 * p + 8 → d < lo + W)
    (hX : ∀ n, n < 2048 → ⊥ < row x r n) :
    ∃ c, First (row x r) p (lo + c) ∧ c < W ∧ top w (scores w x gv) (ix2 r 0) = row x r (lo + c)
      ∧ first w (scores w x gv) (ix2 r 0) = BitVec.ofNat 32 c
      ∧ target w t (first w (scores w x gv)) (ix2 r 0) = row t r (lo + c) := by
  have hW := w.fits
  obtain ⟨c, h1, h2, h3, h4⟩ := window hlo hW hg hcov hX (fun k : Fin W => scores w x gv (ix2 r k))
    (scores_apply w x gv r g (by omega) hgv)
  have h5 := (first_apply w (scores w x gv) r).trans (window_index (by omega) _ _ c h3 h4)
  refine ⟨c, h1, c.2, (top_apply w _ r).trans h2, h5, ?_⟩
  rw [target_apply, h5]
  exact window_pick (by omega) (fun k => row t r (lo + k)) c

end Window

/-! ## The losses -/

/-- A vector of node losses as the body computes it. -/
def losses (s : Shape) (x t : FVec Ideal s .f32) : FVec Ideal s .f32 :=
  subf (mulf (broadcast s (Named.named κ "ln2" 0x3F317218#32)) (mulf (log (addf (broadcast s (Scalar.ofBits .f32 0x3F800000#32))
    (exp2 (mulf x (broadcast s (Named.named κ "log2e" 0x3FB8AA3B#32)))))) (broadcast s (Named.named κ "log2e" 0x3FB8AA3B#32)))) (mulf x t)

theorem losses_apply (s : Shape) (x t : FVec Ideal s .f32) (i : s.Idx) : losses s x t i = nodeLoss (x i) (t i) := by
  unfold losses
  rw [IdealRules.named_const.ideal_named_scalar κ "ln2" (φ := .f32) 0x3F317218#32 _ rfl,
    IdealRules.named_const.ideal_named_scalar κ "log2e" (φ := .f32) 0x3FB8AA3B#32 _ rfl]
  show (Real.log 2 : EReal) * (Ideal.log (Ideal.ofBits .f32 0x3F800000#32 + Ideal.exp2 (x i * (((Real.log 2)⁻¹ : ℝ) : EReal))) * (((Real.log 2)⁻¹ : ℝ) : EReal)) - x i * t i = _
  rw [ofBits_one, sp_base_two]
  rfl

/-- What a node of target `t` receives from a parent of loss `a`, as the body computes it. -/
def given (t a : FVec Ideal S256x1 .f32) : FVec Ideal S256x1 .f32 :=
  select (cmpf .oeq t (broadcast S256x1 (Scalar.ofBits .f32 0x00000000#32))) a (broadcast S256x1 (Scalar.ofBits .f32 0x00000000#32))

theorem given_apply (t a : FVec Ideal S256x1 .f32) (r : Fin 256) (T : ℕ → EReal) (p : ℕ) (h : t (ix2 r 0) = T p) :
    given t a (ix2 r 0) = up T p (a (ix2 r 0)) := by
  show Scalar.select (FloatOps.cmpf .oeq (t (ix2 r 0)) (Ideal.ofBits .f32 0x00000000#32)) (a (ix2 r 0)) (Ideal.ofBits .f32 0x00000000#32) = _
  rw [select_oeq, ofBits_zero, h]; rfl

theorem next_apply (v t a : FVec Ideal S256x1 .f32) (r : Fin 256) :
    addf (losses S256x1 v t) a (ix2 r 0) = nodeLoss (v (ix2 r 0)) (t (ix2 r 0)) + a (ix2 r 0) :=
  congrArg (fun y : EReal => y + a (ix2 r 0)) (losses_apply _ _ _ _)

/-! ## The four windows -/

theorem w₁ : Win 8 1 := ⟨by decide, slices_S256x2048_o0_1_S256x8, iota_S256x8_d1_w32, broadcasts_S256x1_S256x8, reduces_S256x8_S256⟩
theorem w₂ : Win 64 9 := ⟨by decide, slices_S256x2048_o0_9_S256x64, iota_S256x64_d1_w32, broadcasts_S256x1_S256x64, reduces_S256x64_S256⟩
theorem w₃ : Win 512 73 := ⟨by decide, slices_S256x2048_o0_73_S256x512, iota_S256x512_d1_w32, broadcasts_S256x1_S256x512, reduces_S256x512_S256⟩
theorem w₄ : Win 1463 585 := ⟨by decide, slices_S256x2048_o0_585_S256x1463, iota_S256x1463_d1_w32, broadcasts_S256x1_S256x1463, reduces_S256x1463_S256⟩

section Rows
variable (x t : FVec Ideal S256x2048 .f32)

/-- The windows' scores, in order, each grouped by where the one before it has its largest. -/
def s₁ := scores w₁ x (broadcast S256x1 0#32)
def s₂ := scores w₂ x (first w₁ (s₁ x))
def s₃ := scores w₃ x (first w₂ (s₂ x))
def s₄ := scores w₄ x (first w₃ (s₃ x))

/-- The windows' targets. -/
def t₁ := target w₁ t (first w₁ (s₁ x))
def t₂ := target w₂ t (first w₂ (s₂ x))
def t₃ := target w₃ t (first w₃ (s₃ x))
def t₄ := target w₄ t (first w₄ (s₄ x))

/-- The path's losses and what its nodes receive. -/
def a₀ := losses S256x1 (extractStridedSlice S256x1 ![0, 0] x slices_S256x2048_o0_0_S256x1) (extractStridedSlice S256x1 ![0, 0] t slices_S256x2048_o0_0_S256x1)
def g₁ := given (t₁ x t) (a₀ x t)
def a₁ := addf (losses S256x1 (top w₁ (s₁ x)) (t₁ x t)) (g₁ x t)
def g₂ := given (t₂ x t) (a₁ x t)
def a₂ := addf (losses S256x1 (top w₂ (s₂ x)) (t₂ x t)) (g₂ x t)
def g₃ := given (t₃ x t) (a₂ x t)
def a₃ := addf (losses S256x1 (top w₃ (s₃ x)) (t₃ x t)) (g₃ x t)
def g₄ : FVec Ideal S256x1 .f32 :=
  select (andi (cmpi .slt (muli (first w₃ (s₃ x)) (broadcast S256x1 8#32)) (broadcast S256x1 1463#32))
    (cmpf .oeq (t₄ x t) (broadcast S256x1 (Scalar.ofBits .f32 0x00000000#32)))) (a₃ x t) (broadcast S256x1 (Scalar.ofBits .f32 0x00000000#32))

/-- The rows' sums of losses. -/
def sums : FVec Ideal S256x1 .f32 :=
  shapeCast S256x1 (multiReduction .add [1] S256 (losses S256x2048 x t) 0x00000000#32 reduces_S256x2048_S256 (.inl rfl) rfl) shapeCasts_S256_S256x1

/-- The rows' totals. -/
def totals : FVec Ideal S256x1 .f32 :=
  addf (sums x t) (addf (addf (addf (addf (broadcast S256x1 (Scalar.ofBits .f32 0x00000000#32)) (g₁ x t)) (g₂ x t)) (g₃ x t)) (g₄ x t))

theorem sums_apply (r : Fin 256) : sums x t (ix2 r 0) = ∑ n : Fin 2048, nodeLoss (row x r n) (row t r n) := by
  refine (column_apply _ _ r).trans ?_
  refine (Ideal.multiReduction_add_single _ _ _ _ _ _).trans ?_
  refine Finset.sum_congr rfl fun (k : Fin 2048) _ => ?_
  refine (congrArg _ (lift_row reduces_S256x2048_S256 r k)).trans ?_
  rw [losses_apply, row_fin, row_fin]

theorem root_apply (r : Fin 256) : a₀ x t (ix2 r 0) = nodeLoss (row x r 0) (row t r 0) := by
  have e : ∀ y : FVec Ideal S256x2048 .f32, extractStridedSlice S256x1 ![0, 0] y slices_S256x2048_o0_0_S256x1 (ix2 r 0) = row y r 0 := by
    intro y
    rw [row, dif_pos (by decide)]
    exact extractStridedSlice_apply _ _ _ _ _ fun a => by
      match a with
      | ⟨0, _⟩ => show (r : ℕ) = 0 + (r : ℕ); omega
      | ⟨1, _⟩ => rfl
  refine (losses_apply _ _ _ _).trans ?_
  rw [e, e]

/-- The last level's test: the third node has children exactly where its group starts inside the last window. -/
theorem last_apply (r : Fin 256) (c : ℕ) (hc : c < 512) (h : first w₃ (s₃ x) (ix2 r 0) = BitVec.ofNat 32 c) :
    g₄ x t (ix2 r 0) = if 73 + c ≤ 255 then (given (t₄ x t) (a₃ x t)) (ix2 r 0) else 0 := by
  show Scalar.select (IntOp.andi (IntOp.cmpi .slt (IntOp.muli (first w₃ (s₃ x) (ix2 r 0)) 8#32) 1463#32)
    (FloatOps.cmpf .oeq (t₄ x t (ix2 r 0)) (Ideal.ofBits .f32 0x00000000#32))) (a₃ x t (ix2 r 0)) (Ideal.ofBits .f32 0x00000000#32) = _
  rw [h]
  have hb : ∀ c : Fin 512, IntOp.cmpi .slt (IntOp.muli (BitVec.ofNat 32 c) 8#32) 1463#32 = if 73 + (c : ℕ) ≤ 255 then 1#1 else 0#1 := by
    decide +kernel
  have := hb ⟨c, hc⟩
  simp only at this
  rw [this]
  split_ifs with hv
  · show Scalar.select (1#1 &&& _) _ _ = Scalar.select _ _ _
    rw [show ∀ b : BitVec 1, 1#1 &&& b = b by decide]
    rfl
  · show Scalar.select (0#1 &&& _) _ _ = _
    rw [show ∀ b : BitVec 1, 0#1 &&& b = 0#1 by decide]
    exact ofBits_zero

/-- A row's total, as the body computes it, is `rowTotal` along the greedy path. -/
theorem totals_apply (r : Fin 256) (hX : ∀ n, n < 2048 → ⊥ < row x r n) :
    ∃ p₁ p₂ p₃ p₄, Path (row x r) p₁ p₂ p₃ p₄ ∧
      totals x t (ix2 r 0) = rowTotal (fun n => nodeLoss (row x r n) (row t r n)) (row t r) p₁ p₂ p₃ p₄ := by
  obtain ⟨c₁, f₁, b₁, m₁, i₁, d₁⟩ := level w₁ x t (broadcast S256x1 0#32) r (p := 0) (g := 0) rfl (by omega) (by omega)
    (fun d _ _ => by omega) hX
  obtain ⟨c₂, f₂, b₂, m₂, i₂, d₂⟩ := level w₂ x t (first w₁ (s₁ x)) r (p := 1 + c₁) (g := c₁) i₁ (by omega) (by omega)
    (fun d _ _ => by omega) hX
  obtain ⟨c₃, f₃, b₃, m₃, i₃, d₃⟩ := level w₃ x t (first w₂ (s₂ x)) r (p := 9 + c₂) (g := c₂) i₂ (by omega) (by omega)
    (fun d _ _ => by omega) hX
  have e₁ : g₁ x t (ix2 r 0) = up (row t r) (1 + c₁) (a₀ x t (ix2 r 0)) := given_apply (t₁ x t) (a₀ x t) r (row t r) _ d₁
  have l₁ : a₁ x t (ix2 r 0) = nodeLoss (top w₁ (s₁ x) (ix2 r 0)) (t₁ x t (ix2 r 0)) + g₁ x t (ix2 r 0) := next_apply _ _ _ r
  rw [root_apply] at e₁
  rw [show top w₁ (s₁ x) (ix2 r 0) = row x r (1 + c₁) from m₁, show t₁ x t (ix2 r 0) = row t r (1 + c₁) from d₁, e₁] at l₁
  have e₂ : g₂ x t (ix2 r 0) = up (row t r) (9 + c₂) (a₁ x t (ix2 r 0)) := given_apply (t₂ x t) (a₁ x t) r (row t r) _ d₂
  have l₂ : a₂ x t (ix2 r 0) = nodeLoss (top w₂ (s₂ x) (ix2 r 0)) (t₂ x t (ix2 r 0)) + g₂ x t (ix2 r 0) := next_apply _ _ _ r
  rw [l₁] at e₂
  rw [show top w₂ (s₂ x) (ix2 r 0) = row x r (9 + c₂) from m₂, show t₂ x t (ix2 r 0) = row t r (9 + c₂) from d₂, e₂] at l₂
  have e₃ : g₃ x t (ix2 r 0) = up (row t r) (73 + c₃) (a₂ x t (ix2 r 0)) := given_apply (t₃ x t) (a₂ x t) r (row t r) _ d₃
  have l₃ : a₃ x t (ix2 r 0) = nodeLoss (top w₃ (s₃ x) (ix2 r 0)) (t₃ x t (ix2 r 0)) + g₃ x t (ix2 r 0) := next_apply _ _ _ r
  rw [l₂] at e₃
  rw [show top w₃ (s₃ x) (ix2 r 0) = row x r (73 + c₃) from m₃, show t₃ x t (ix2 r 0) = row t r (73 + c₃) from d₃, e₃] at l₃
  have e₄ := last_apply x t r c₃ b₃ i₃
  have tot : totals x t (ix2 r 0) = sums x t (ix2 r 0) + (Ideal.ofBits .f32 0x00000000#32 + g₁ x t (ix2 r 0) + g₂ x t (ix2 r 0)
    + g₃ x t (ix2 r 0) + g₄ x t (ix2 r 0)) := rfl
  rw [ofBits_zero, zero_add, sums_apply, e₁, e₂, e₃, e₄] at tot
  by_cases hv : 73 + c₃ ≤ 255
  · obtain ⟨c₄, f₄, b₄, m₄, i₄, d₄⟩ := level w₄ x t (first w₃ (s₃ x)) r (p := 73 + c₃) (g := c₃) i₃ (by omega) (by omega)
      (fun d _ _ => by omega) hX
    refine ⟨_, _, _, _, ⟨f₁, f₂, f₃, fun _ => f₄⟩, tot.trans ?_⟩
    rw [given_apply (t₄ x t) (a₃ x t) r (row t r) _ d₄, l₃]
    rfl
  · refine ⟨_, _, _, 0, ⟨f₁, f₂, f₃, fun h => absurd h hv⟩, tot.trans ?_⟩
    rw [if_neg hv]
    unfold rowTotal
    rw [if_neg hv]

/-! ## The block -/

/-- The body's payload is the sum of the rows' totals, everywhere in the block. -/
def spreadSum : FVec Ideal S1x1x128 .f32 :=
  broadcast S1x1x128 (extractAt ![0, 0, 0] (shapeCast S1x1x1 (multiReduction .add [1, 2] S1 (shapeCast S1x256x1 (totals x t) shapeCasts_S256x1_S1x256x1)
    0x00000000#32 reduces_S1x256x1_S1 (.inl rfl) rfl) shapeCasts_S1_S1x1x1) inpos_S1x1x1_p0_0_0)

theorem spreadSum_apply (i : S1x1x128.Idx) : spreadSum x t i = ∑ r : Fin 256, totals x t (ix2 r 0) := by
  show shapeCast S1x1x1 _ shapeCasts_S1_S1x1x1 _ = _
  refine (shapeCast_apply _ shapeCasts_S1_S1x1x1 _ (ix1 (0 : Fin 1)) (by rw [Shape.rowMajor_val_one, Shape.rowMajor_val_three]; rfl)).trans ?_
  refine (Ideal.multiReduction_add_total _ _ _ (by decide) _ _ _).trans ?_
  have e : ∀ r : Fin 256, totals x t (ix2 r 0)
      = shapeCast S1x256x1 (totals x t) shapeCasts_S256x1_S1x256x1 (ix3 0 r 0) := fun r =>
    (shapeCast_apply _ _ _ _ (by
      rw [Shape.rowMajor_val_two, Shape.rowMajor_val_three]; show (r : ℕ) * 1 + 0 = (0 * 256 + (r : ℕ)) * 1 + 0; omega)).symm
  simp only [e]
  generalize shapeCast S1x256x1 (totals x t) shapeCasts_S256x1_S1x256x1 = v
  refine (Fintype.sum_bijective (fun r : Fin 256 => (ix3 0 r 0 : S1x256x1.Idx)) ⟨fun a b h => congrFun h 1, fun i => ⟨i 1, ?_⟩⟩ _ _ fun _ => rfl).symm
  funext a
  match a with
  | ⟨0, _⟩ => exact Subsingleton.elim (α := Fin 1) _ _
  | ⟨1, _⟩ => rfl
  | ⟨2, _⟩ => exact Subsingleton.elim (α := Fin 1) _ _

set_option maxRecDepth 65536 in
theorem out_eq (x t : Vec Ideal S256x2048 .f32) : out0_2 (F := Ideal) x t
    = View.canon [⟨r0_1, (spreadSum (View.ld x r0_0 : Vec Ideal S256x2048 .f32) (View.ld t r0_0 : Vec Ideal S256x2048 .f32) : Vec Ideal S1x1x128 .f32)⟩] :=
  rfl

end Rows

end Cert.KernelIdeal.Row

end
-- ==== Proof.KerValue.lean ====
/- The kernel's run: every block of the result of the one region holds the sum of its 256 rows' totals, and the host lines
   after it add the 64 blocks and divide. -/
module

public import proofs.«01_k».proof.Proof.KerRow
public import Idealize.ShloMosaic.Lib.Pipeline.ValueKit
public import Idealize.ShloMosaic.Lib.StableHlo.Run

@[expose] public section

set_option maxRecDepth 16384

noncomputable section

namespace Cert.KernelIdeal.Row

open Cert.KernelIdeal Cert.KernelIdeal.Gen Cert.Tree Idealize.ShloMosaic Idealize.SL.Sem

/-- Rows `256 b` to `256 b + 255` of an array. -/
def blockOf (X : FVec Ideal S16384x2048 .f32) (b : Fin 64) : FVec Ideal S256x2048 .f32 := fun j =>
  X (ValueIdx.ix2 ⟨256 * b + (j 0 : Fin 256), by have h : (j 0 : Fin 256).val < 256 := (j 0 : Fin 256).2; omega⟩ (j 1 : Fin 2048))

/-- What the region leaves in its result: block `b` holds, everywhere, the sum of its rows' totals. -/
def filled (X T : FVec Ideal S16384x2048 .f32) : FVec Ideal S64x1x128 .f32 := fun i =>
  ∑ r : Fin 256, totals (blockOf X (i 0)) (blockOf T (i 0)) (ValueIdx.ix2 r 0)

/-- The host lines after the region, on the region's result. -/
def mean (P : FVec Ideal S64x1x128 .f32) : FVec Ideal S_ .f32 :=
  Host.divf (Host.reduceAdd (shapeCast S64 (extractStridedSlice S64x1x1 ![0, 0, 0] P slices_S64x1x128_S64x1x1_0_0_0) shapeCasts_S64x1x1_S64)
    (constant S_ .f32 0x00000000#32) reducesTo_S64_S_d0 h_S_) (constant S_ .f32 0x4C000000#32)

theorem out_apply (x t : Vec Ideal S256x2048 .f32) (i : S1x1x128.Idx) :
    out0_2 (F := Ideal) x t i = ∑ r : Fin 256, totals (x : FVec Ideal S256x2048 .f32) t (ValueIdx.ix2 r 0) := by
  rw [out_eq]
  have h2 : (![0, 0] : Fin 2 → ℕ) = fun _ => 0 := by funext a; fin_cases a <;> rfl
  have h3 : (![0, 0, 0] : Fin 3 → ℕ) = fun _ => 0 := by funext a; fin_cases a <;> rfl
  refine (congrFun (View.canon_unit_zero (S := S1x1x128) (e := .f32) h3 _ _) i).trans ?_
  refine (spreadSum_apply _ _ i).trans ?_
  rw [show (View.ld x r0_0 : Vec Ideal S256x2048 .f32) = x from View.ld_unit_zero (S := S256x2048) h2 _ x,
    show (View.ld t r0_0 : Vec Ideal S256x2048 .f32) = t from View.ld_unit_zero (S := S256x2048) h2 _ t]

variable (m : (ℓ : Loc nD τ sig) → Buf (Elt Ideal) ℓ) (ρ : Dev nD → PrngReg)

theorem index_eq : ∀ t : Fin cfg0.N, ((cfg0.win 0).index t 0 = t.val ∧ (cfg0.win 0).index t 1 = 0)
    ∧ ((cfg0.win 1).index t 0 = t.val ∧ (cfg0.win 1).index t 1 = 0) ∧ (cfg0.win 2).index t 0 = t.val := by
  decide +kernel

theorem arr_eq (c : Dev nD) : (dats m 0 c).arrAt 2 (cfgs 0).N
    = filled (m ((c.tc : Thread nD τ).loc main_arg0)) (m ((c.tc : Thread nD τ).loc main_arg1)) := by
  refine (dats m 0 c).arrAt_eq_of_covers 2 _ (by decide +kernel) fun t hf y => ?_
  blk_simp
  rw [after0_2, out_apply]
  obtain ⟨⟨e₀, e₁⟩, ⟨e₂, e₃⟩, e₄⟩ := index_eq t
  have hb : ((win0_2.blk t).view.emb y 0 : ℕ) = t.val := by
    blk_simp [e₄]
  have h0 : (iblk m c 0 t : FVec Ideal S256x2048 .f32) = blockOf (m (c.tc.loc main_arg0)) ((win0_2.blk t).view.emb y 0) := by
    funext j
    unfold blockOf
    blk_ext [iblk, V, hb, e₀, e₁]
  have h1 : (iblk m c 1 t : FVec Ideal S256x2048 .f32) = blockOf (m (c.tc.loc main_arg1)) ((win0_2.blk t).view.emb y 0) := by
    funext j
    unfold blockOf
    blk_ext [iblk, V, hb, e₂, e₃]
  unfold filled
  rw [← h0, ← h1]

theorem tail_eq (c : Dev nD) : Pipeline.afterTail₀ cfgs (dats m) 0 (V0 m) [hostOps1] c main_v4 = mean ((dats m 0 c).arrAt 2 (cfgs 0).N) := by
  have e := Pipeline.withArrays_arr (Val := Elt Ideal) spec0 launch0.win.arr_inj c (V0 m c) (fun w => (dats m 0 c).arrAt w cfg0.N) 2
  unfold Pipeline.afterTail₀
  simp only [List.flatten_cons, List.flatten_nil, List.append_nil]
  generalize Pipeline.withArrays _ c _ _ = V at e ⊢
  after_results
  exact congrArg mean e

/-- Every execution of the idealized kernel ends with its result at `mean` of the rows' totals and its arguments unchanged. -/
theorem run : θ_run defs (onTc (τ := τ) (main (F := Ideal))) ⟨m, fun _ => 0, ρ⟩ (fun r => ∀ c : Dev nD,
      r.2.mem ((c.tc : Thread nD τ).loc main_v4)
        = mean (filled (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono ?_ (θ_run_and (run_main m ρ) (unchanged m ρ))
  intro r h c
  refine ⟨?_, h.2 c⟩
  refine ((h.1 c).2 main_v4 (Pipeline.mem_restRefs_of main_v4 (by decide) (by decide))).trans ?_
  exact (tail_eq m c).trans (congrArg mean (arr_eq m c))

end Cert.KernelIdeal.Row

end
-- ==== Proof.RefOps.lean ====
/- The reference's @main as a list of its 224 host operations: the windows, that the program is that list, and which buffers the
   operations touch. `Proof/RefRun.lean` reads the values back. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 30 of 224 (window `main_part0`). -/
abbrev ops_part0_0 : List (HloOp τ sig (Elt F)) :=
  [ nullary main_v0 (iotaInDim S2048 32 0),
    unary main_v0 main_v1 (broadcastInDim S1x2048 ![1] bcast_S2048_S1x2048_1 : (⟨S2048, .i32⟩ : BufTy).Contents (Elt F) → (⟨S1x2048, .i32⟩ : BufTy).Contents (Elt F)),
    nullary main_cst (constant S_ .f32 0x00000000#32),
    unary main_cst main_v2 (broadcastInDim S16384x2048 ![] bcast_S_S16384x2048 : (⟨S_, .f32⟩ : BufTy).Contents (Elt F) → (⟨S16384x2048, .f32⟩ : BufTy).Contents (Elt F)),
    nullary main_c (constantI S_ 32 0#32),
    unary main_c main_v3 (broadcastInDim S1 ![] bcast_S_S1 : (⟨S_, .i32⟩ : BufTy).Contents (Elt F) → (⟨S1, .i32⟩ : BufTy).Contents (Elt F)),
    nullary main_cst_0 (constant S_ .f32 0x3F800000#32),
    unary main_cst_0 main_v4 (broadcastInDim S16384 ![] bcast_S_S16384 : (⟨S_, .f32⟩ : BufTy).Contents (Elt F) → (⟨S16384, .f32⟩ : BufTy).Contents (Elt F)),
    ternary main_v2 main_v3 main_v4 main_v5 ((fun x i u => Host.scatter scatter_S16384x2048_S1_S16384_0_1_1_0 (fun _ b => b) x i u) : (⟨S16384x2048, .f32⟩ : BufTy).Contents (Elt F) → (⟨S1, .i32⟩ : BufTy).Contents (Elt F) → (⟨S16384, .f32⟩ : BufTy).Contents (Elt F) → (⟨S16384x2048, .f32⟩ : BufTy).Contents (Elt F)),
    nullary main_c_1 (constantI S_ 32 0#32),
    unary main_c_1 main_v6 (broadcastInDim S16384 ![] bcast_S_S16384 : (⟨S_, .i32⟩ : BufTy).Contents (Elt F) → (⟨S16384, .i32⟩ : BufTy).Contents (Elt F)),
    unary main_arg2 main_v7 (broadcastInDim S1x2048 ![1] bcast_S2048_S1x2048_1 : (⟨S2048, .i32⟩ : BufTy).Contents (Elt F) → (⟨S1x2048, .i32⟩ : BufTy).Contents (Elt F)),
    unary main_v6 main_v8 (broadcastInDim S16384x1 ![0] bcast_S16384_S16384x1_0 : (⟨S16384, .i32⟩ : BufTy).Contents (Elt F) → (⟨S16384x1, .i32⟩ : BufTy).Contents (Elt F)),
    unary main_v7 main_v9 (broadcastInDim S16384x2048 ![0, 1] bcast_S1x2048_S16384x2048_0_1 : (⟨S1x2048, .i32⟩ : BufTy).Contents (Elt F) → (⟨S16384x2048, .i32⟩ : BufTy).Contents (Elt F)),
    unary main_v8 main_v10 (broadcastInDim S16384x2048 ![0, 1] bcast_S16384x1_S16384x2048_0_1 : (⟨S16384x1, .i32⟩ : BufTy).Contents (Elt F) → (⟨S16384x2048, .i32⟩ : BufTy).Contents (Elt F)),
    binary main_v9 main_v10 main_v11 (cmpi .eq : (⟨S16384x2048, .i32⟩ : BufTy).Contents (Elt F) → (⟨S16384x2048, .i32⟩ : BufTy).Contents (Elt F) → (⟨S16384x2048, .i1⟩ : BufTy).Contents (Elt F)),
    nullary main_cst_2 (constant S_ .f32 0xFF800000#32),
    TRef.unary (TRef.of (T := ⟨S_, .f32⟩) main_cst_2) (TRef.of (T := ⟨S16384x2048, .f32⟩) main_call0_v0) (broadcastInDim S16384x2048 ![] bcast_S_S16384x2048),
    TRef.ternary (TRef.of (T := ⟨S16384x2048, .i1⟩) main_v11) (TRef.of (T := ⟨S16384x2048, .f32⟩) main_arg0) (TRef.of (T := ⟨S16384x2048, .f32⟩) main_call0_v0) (TRef.of (T := ⟨S16384x2048, .f32⟩) main_v12) select,
    nullary main_c_3 (constantI S_ 1 0#1),
    binary main_v11 main_c_3 main_v13 ((fun x v => Host.reduce IntOp.ori x v reducesTo_S16384x2048_S16384_d1 h_S_) : (⟨S16384x2048, .i1⟩ : BufTy).Contents (Elt F) → (⟨S_, .i1⟩ : BufTy).Contents (Elt F) → (⟨S16384, .i1⟩ : BufTy).Contents (Elt F)),
    TRef.nullary (TRef.of (T := ⟨S16384x2048, .i32⟩) main_call1_v0) (iotaInDim S16384x2048 32 1),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S16384x2048, .f32⟩) main_v12) (TRef.of (T := ⟨S16384x2048, .i32⟩) main_call1_v0) (TRef.of (T := ⟨S_, .f32⟩) main_call1_cst) (TRef.of (T := ⟨S_, .i32⟩) main_call1_c) (TRef.of (T := ⟨S16384, .f32⟩) main_call1_v1_0) (fun x y u v j => (Host.argReduce reducer_argmax_f32_i32 x y u v reducesTo_S16384x2048_S16384_d1 h_S_ j).1),
    TRef.quaternary (TRef.of (T := ⟨S16384x2048, .f32⟩) main_v12) (TRef.of (T := ⟨S16384x2048, .i32⟩) main_call1_v0) (TRef.of (T := ⟨S_, .f32⟩) main_call1_cst) (TRef.of (T := ⟨S_, .i32⟩) main_call1_c) (TRef.of (T := ⟨S16384, .i32⟩) main_v14) (fun x y u v j => (Host.argReduce reducer_argmax_f32_i32 x y u v reducesTo_S16384x2048_S16384_d1 h_S_ j).2),
    TRef.ternary (TRef.of (T := ⟨S16384, .i1⟩) main_v13) (TRef.of (T := ⟨S16384, .i32⟩) main_v14) (TRef.of (T := ⟨S16384, .i32⟩) main_v6) (TRef.of (T := ⟨S16384, .i32⟩) main_v15) select,
    unary main_v13 main_v16 (broadcastInDim S16384x1 ![0] bcast_S16384_S16384x1_0 : (⟨S16384, .i1⟩ : BufTy).Contents (Elt F) → (⟨S16384x1, .i1⟩ : BufTy).Contents (Elt F)),
    unary main_v15 main_v17 (broadcastInDim S16384x1 ![0] bcast_S16384_S16384x1_0 : (⟨S16384, .i32⟩ : BufTy).Contents (Elt F) → (⟨S16384x1, .i32⟩ : BufTy).Contents (Elt F)),
    unary main_v1 main_v18 (broadcastInDim S16384x2048 ![0, 1] bcast_S1x2048_S16384x2048_0_1 : (⟨S1x2048, .i32⟩ : BufTy).Contents (Elt F) → (⟨S16384x2048, .i32⟩ : BufTy).Contents (Elt F)) ]

/-- @main's operations 31 … 60 of 224 (window `main_part0`). -/
abbrev ops_part0_1 : List (HloOp τ sig (Elt F)) :=
  [ unary main_v17 main_v19 (broadcastInDim S16384x2048 ![0, 1] bcast_S16384x1_S16384x2048_0_1 : (⟨S16384x1, .i32⟩ : BufTy).Contents (Elt F) → (⟨S16384x2048, .i32⟩ : BufTy).Contents (Elt F)),
    binary main_v18 main_v19 main_v20 (cmpi .eq : (⟨S16384x2048, .i32⟩ : BufTy).Contents (Elt F) → (⟨S16384x2048, .i32⟩ : BufTy).Contents (Elt F) → (⟨S16384x2048, .i1⟩ : BufTy).Contents (Elt F)),
    unary main_v16 main_v21 (broadcastInDim S16384x2048 ![0, 1] bcast_S16384x1_S16384x2048_0_1 : (⟨S16384x1, .i1⟩ : BufTy).Contents (Elt F) → (⟨S16384x2048, .i1⟩ : BufTy).Contents (Elt F)),
    binary main_v21 main_v20 main_v22 (andi : (⟨S16384x2048, .i1⟩ : BufTy).Contents (Elt F) → (⟨S16384x2048, .i1⟩ : BufTy).Contents (Elt F) → (⟨S16384x2048, .i1⟩ : BufTy).Contents (Elt F)),
    nullary main_cst_4 (constant S_ .f32 0x3F800000#32),
    TRef.unary (TRef.of (T := ⟨S_, .f32⟩) main_cst_4) (TRef.of (T := ⟨S_, .f32⟩) main_call3_v0) id,
    TRef.unary (TRef.of (T := ⟨S_, .f32⟩) main_call3_v0) (TRef.of (T := ⟨S16384x2048, .f32⟩) main_call3_v1) (broadcastInDim S16384x2048 ![] bcast_S_S16384x2048),
    TRef.ternary (TRef.of (T := ⟨S16384x2048, .i1⟩) main_v22) (TRef.of (T := ⟨S16384x2048, .f32⟩) main_call3_v1) (TRef.of (T := ⟨S16384x2048, .f32⟩) main_v5) (TRef.of (T := ⟨S16384x2048, .f32⟩) main_v23) select,
    unary main_arg2 main_v24 (broadcastInDim S1x2048 ![1] bcast_S2048_S1x2048_1 : (⟨S2048, .i32⟩ : BufTy).Contents (Elt F) → (⟨S1x2048, .i32⟩ : BufTy).Contents (Elt F)),
    unary main_v15 main_v25 (broadcastInDim S16384x1 ![0] bcast_S16384_S16384x1_0 : (⟨S16384, .i32⟩ : BufTy).Contents (Elt F) → (⟨S16384x1, .i32⟩ : BufTy).Contents (Elt F)),
    unary main_v24 main_v26 (broadcastInDim S16384x2048 ![0, 1] bcast_S1x2048_S16384x2048_0_1 : (⟨S1x2048, .i32⟩ : BufTy).Contents (Elt F) → (⟨S16384x2048, .i32⟩ : BufTy).Contents (Elt F)),
    unary main_v25 main_v27 (broadcastInDim S16384x2048 ![0, 1] bcast_S16384x1_S16384x2048_0_1 : (⟨S16384x1, .i32⟩ : BufTy).Contents (Elt F) → (⟨S16384x2048, .i32⟩ : BufTy).Contents (Elt F)),
    binary main_v26 main_v27 main_v28 (cmpi .eq : (⟨S16384x2048, .i32⟩ : BufTy).Contents (Elt F) → (⟨S16384x2048, .i32⟩ : BufTy).Contents (Elt F) → (⟨S16384x2048, .i1⟩ : BufTy).Contents (Elt F)),
    nullary main_cst_5 (constant S_ .f32 0xFF800000#32),
    TRef.unary (TRef.of (T := ⟨S_, .f32⟩) main_cst_5) (TRef.of (T := ⟨S16384x2048, .f32⟩) main_call4_v0) (broadcastInDim S16384x2048 ![] bcast_S_S16384x2048),
    TRef.ternary (TRef.of (T := ⟨S16384x2048, .i1⟩) main_v28) (TRef.of (T := ⟨S16384x2048, .f32⟩) main_arg0) (TRef.of (T := ⟨S16384x2048, .f32⟩) main_call4_v0) (TRef.of (T := ⟨S16384x2048, .f32⟩) main_v29) select,
    nullary main_c_6 (constantI S_ 1 0#1),
    binary main_v28 main_c_6 main_v30 ((fun x v => Host.reduce IntOp.ori x v reducesTo_S16384x2048_S16384_d1 h_S_) : (⟨S16384x2048, .i1⟩ : BufTy).Contents (Elt F) → (⟨S_, .i1⟩ : BufTy).Contents (Elt F) → (⟨S16384, .i1⟩ : BufTy).Contents (Elt F)),
    TRef.nullary (TRef.of (T := ⟨S16384x2048, .i32⟩) main_call5_v0) (iotaInDim S16384x2048 32 1),
    TRef.nullary (TRef.of (T := ⟨S_, .f32⟩) main_call5_cst) (constant S_ .f32 0xFF800000#32),
    TRef.nullary (TRef.of (T := ⟨S_, .i32⟩) main_call5_c) (constantI S_ 32 0#32),
    TRef.quaternary (TRef.of (T := ⟨S16384x2048, .f32⟩) main_v29) (TRef.of (T := ⟨S16384x2048, .i32⟩) main_call5_v0) (TRef.of (T := ⟨S_, .f32⟩) main_call5_cst) (TRef.of (T := ⟨S_, .i32⟩) main_call5_c) (TRef.of (T := ⟨S16384, .f32⟩) main_call5_v1_0) (fun x y u v j => (Host.argReduce reducer_argmax_f32_i32 x y u v reducesTo_S16384x2048_S16384_d1 h_S_ j).1),
    TRef.quaternary (TRef.of (T := ⟨S16384x2048, .f32⟩) main_v29) (TRef.of (T := ⟨S16384x2048, .i32⟩) main_call5_v0) (TRef.of (T := ⟨S_, .f32⟩) main_call5_cst) (TRef.of (T := ⟨S_, .i32⟩) main_call5_c) (TRef.of (T := ⟨S16384, .i32⟩) main_v31) (fun x y u v j => (Host.argReduce reducer_argmax_f32_i32 x y u v reducesTo_S16384x2048_S16384_d1 h_S_ j).2),
    TRef.ternary (TRef.of (T := ⟨S16384, .i1⟩) main_v30) (TRef.of (T := ⟨S16384, .i32⟩) main_v31) (TRef.of (T := ⟨S16384, .i32⟩) main_v15) (TRef.of (T := ⟨S16384, .i32⟩) main_v32) select,
    unary main_v30 main_v33 (broadcastInDim S16384x1 ![0] bcast_S16384_S16384x1_0 : (⟨S16384, .i1⟩ : BufTy).Contents (Elt F) → (⟨S16384x1, .i1⟩ : BufTy).Contents (Elt F)),
    unary main_v32 main_v34 (broadcastInDim S16384x1 ![0] bcast_S16384_S16384x1_0 : (⟨S16384, .i32⟩ : BufTy).Contents (Elt F) → (⟨S16384x1, .i32⟩ : BufTy).Contents (Elt F)),
    unary main_v1 main_v35 (broadcastInDim S16384x2048 ![0, 1] bcast_S1x2048_S16384x2048_0_1 : (⟨S1x2048, .i32⟩ : BufTy).Contents (Elt F) → (⟨S16384x2048, .i32⟩ : BufTy).Contents (Elt F)),
    unary main_v34 main_v36 (broadcastInDim S16384x2048 ![0, 1] bcast_S16384x1_S16384x2048_0_1 : (⟨S16384x1, .i32⟩ : BufTy).Contents (Elt F) → (⟨S16384x2048, .i32⟩ : BufTy).Contents (Elt F)),
    binary main_v35 main_v36 main_v37 (cmpi .eq : (⟨S16384x2048, .i32⟩ : BufTy).Contents (Elt F) → (⟨S16384x2048, .i32⟩ : BufTy).Contents (Elt F) → (⟨S16384x2048, .i1⟩ : BufTy).Contents (Elt F)),
    unary main_v33 main_v38 (broadcastInDim S16384x2048 ![0, 1] bcast_S16384x1_S16384x2048_0_1 : (⟨S16384x1, .i1⟩ : BufTy).Contents (Elt F) → (⟨S16384x2048, .i1⟩ : BufTy).Contents (Elt F)) ]

/-- @main's operations 61 … 75 of 224 (window `main_part0`). -/
abbrev ops_part0_2 : List (HloOp τ sig (Elt F)) :=
  [ binary main_v38 main_v37 main_v39 (andi : (⟨S16384x2048, .i1⟩ : BufTy).Contents (Elt F) → (⟨S16384x2048, .i1⟩ : BufTy).Contents (Elt F) → (⟨S16384x2048, .i1⟩ : BufTy).Contents (Elt F)),
    nullary main_cst_7 (constant S_ .f32 0x3F800000#32),
    TRef.unary (TRef.of (T := ⟨S_, .f32⟩) main_cst_7) (TRef.of (T := ⟨S_, .f32⟩) main_call7_v0) id,
    TRef.unary (TRef.of (T := ⟨S_, .f32⟩) main_call7_v0) (TRef.of (T := ⟨S16384x2048, .f32⟩) main_call7_v1) (broadcastInDim S16384x2048 ![] bcast_S_S16384x2048),
    TRef.ternary (TRef.of (T := ⟨S16384x2048, .i1⟩) main_v39) (TRef.of (T := ⟨S16384x2048, .f32⟩) main_call7_v1) (TRef.of (T := ⟨S16384x2048, .f32⟩) main_v23) (TRef.of (T := ⟨S16384x2048, .f32⟩) main_v40) select,
    unary main_arg2 main_v41 (broadcastInDim S1x2048 ![1] bcast_S2048_S1x2048_1 : (⟨S2048, .i32⟩ : BufTy).Contents (Elt F) → (⟨S1x2048, .i32⟩ : BufTy).Contents (Elt F)),
    unary main_v32 main_v42 (broadcastInDim S16384x1 ![0] bcast_S16384_S16384x1_0 : (⟨S16384, .i32⟩ : BufTy).Contents (Elt F) → (⟨S16384x1, .i32⟩ : BufTy).Contents (Elt F)),
    unary main_v41 main_v43 (broadcastInDim S16384x2048 ![0, 1] bcast_S1x2048_S16384x2048_0_1 : (⟨S1x2048, .i32⟩ : BufTy).Contents (Elt F) → (⟨S16384x2048, .i32⟩ : BufTy).Contents (Elt F)),
    unary main_v42 main_v44 (broadcastInDim S16384x2048 ![0, 1] bcast_S16384x1_S16384x2048_0_1 : (⟨S16384x1, .i32⟩ : BufTy).Contents (Elt F) → (⟨S16384x2048, .i32⟩ : BufTy).Contents (Elt F)),
    binary main_v43 main_v44 main_v45 (cmpi .eq : (⟨S16384x2048, .i32⟩ : BufTy).Contents (Elt F) → (⟨S16384x2048, .i32⟩ : BufTy).Contents (Elt F) → (⟨S16384x2048, .i1⟩ : BufTy).Contents (Elt F)),
    nullary main_cst_8 (constant S_ .f32 0xFF800000#32),
    TRef.unary (TRef.of (T := ⟨S_, .f32⟩) main_cst_8) (TRef.of (T := ⟨S16384x2048, .f32⟩) main_call8_v0) (broadcastInDim S16384x2048 ![] bcast_S_S16384x2048),
    TRef.ternary (TRef.of (T := ⟨S16384x2048, .i1⟩) main_v45) (TRef.of (T := ⟨S16384x2048, .f32⟩) main_arg0) (TRef.of (T := ⟨S16384x2048, .f32⟩) main_call8_v0) (TRef.of (T := ⟨S16384x2048, .f32⟩) main_v46) select,
    nullary main_c_9 (constantI S_ 1 0#1),
    binary main_v45 main_c_9 main_v47 ((fun x v => Host.reduce IntOp.ori x v reducesTo_S16384x2048_S16384_d1 h_S_) : (⟨S16384x2048, .i1⟩ : BufTy).Contents (Elt F) → (⟨S_, .i1⟩ : BufTy).Contents (Elt F) → (⟨S16384, .i1⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- @main's operations 76 … 105 of 224 (window `main_part1`). -/
abbrev ops_part1_0 : List (HloOp τ sig (Elt F)) :=
  [ TRef.nullary (TRef.of (T := ⟨S16384x2048, .i32⟩) main_call9_v0) (iotaInDim S16384x2048 32 1),
    TRef.nullary (TRef.of (T := ⟨S_, .f32⟩) main_call9_cst) (constant S_ .f32 0xFF800000#32),
    TRef.nullary (TRef.of (T := ⟨S_, .i32⟩) main_call9_c) (constantI S_ 32 0#32),
    TRef.quaternary (TRef.of (T := ⟨S16384x2048, .f32⟩) main_v46) (TRef.of (T := ⟨S16384x2048, .i32⟩) main_call9_v0) (TRef.of (T := ⟨S_, .f32⟩) main_call9_cst) (TRef.of (T := ⟨S_, .i32⟩) main_call9_c) (TRef.of (T := ⟨S16384, .f32⟩) main_call9_v1_0) (fun x y u v j => (Host.argReduce reducer_argmax_f32_i32 x y u v reducesTo_S16384x2048_S16384_d1 h_S_ j).1),
    TRef.quaternary (TRef.of (T := ⟨S16384x2048, .f32⟩) main_v46) (TRef.of (T := ⟨S16384x2048, .i32⟩) main_call9_v0) (TRef.of (T := ⟨S_, .f32⟩) main_call9_cst) (TRef.of (T := ⟨S_, .i32⟩) main_call9_c) (TRef.of (T := ⟨S16384, .i32⟩) main_v48) (fun x y u v j => (Host.argReduce reducer_argmax_f32_i32 x y u v reducesTo_S16384x2048_S16384_d1 h_S_ j).2),
    TRef.ternary (TRef.of (T := ⟨S16384, .i1⟩) main_v47) (TRef.of (T := ⟨S16384, .i32⟩) main_v48) (TRef.of (T := ⟨S16384, .i32⟩) main_v32) (TRef.of (T := ⟨S16384, .i32⟩) main_v49) select,
    unary main_v47 main_v50 (broadcastInDim S16384x1 ![0] bcast_S16384_S16384x1_0 : (⟨S16384, .i1⟩ : BufTy).Contents (Elt F) → (⟨S16384x1, .i1⟩ : BufTy).Contents (Elt F)),
    unary main_v49 main_v51 (broadcastInDim S16384x1 ![0] bcast_S16384_S16384x1_0 : (⟨S16384, .i32⟩ : BufTy).Contents (Elt F) → (⟨S16384x1, .i32⟩ : BufTy).Contents (Elt F)),
    unary main_v1 main_v52 (broadcastInDim S16384x2048 ![0, 1] bcast_S1x2048_S16384x2048_0_1 : (⟨S1x2048, .i32⟩ : BufTy).Contents (Elt F) → (⟨S16384x2048, .i32⟩ : BufTy).Contents (Elt F)),
    unary main_v51 main_v53 (broadcastInDim S16384x2048 ![0, 1] bcast_S16384x1_S16384x2048_0_1 : (⟨S16384x1, .i32⟩ : BufTy).Contents (Elt F) → (⟨S16384x2048, .i32⟩ : BufTy).Contents (Elt F)),
    binary main_v52 main_v53 main_v54 (cmpi .eq : (⟨S16384x2048, .i32⟩ : BufTy).Contents (Elt F) → (⟨S16384x2048, .i32⟩ : BufTy).Contents (Elt F) → (⟨S16384x2048, .i1⟩ : BufTy).Contents (Elt F)),
    unary main_v50 main_v55 (broadcastInDim S16384x2048 ![0, 1] bcast_S16384x1_S16384x2048_0_1 : (⟨S16384x1, .i1⟩ : BufTy).Contents (Elt F) → (⟨S16384x2048, .i1⟩ : BufTy).Contents (Elt F)),
    binary main_v55 main_v54 main_v56 (andi : (⟨S16384x2048, .i1⟩ : BufTy).Contents (Elt F) → (⟨S16384x2048, .i1⟩ : BufTy).Contents (Elt F) → (⟨S16384x2048, .i1⟩ : BufTy).Contents (Elt F)),
    nullary main_cst_10 (constant S_ .f32 0x3F800000#32),
    TRef.unary (TRef.of (T := ⟨S_, .f32⟩) main_cst_10) (TRef.of (T := ⟨S_, .f32⟩) main_call11_v0) id,
    TRef.unary (TRef.of (T := ⟨S_, .f32⟩) main_call11_v0) (TRef.of (T := ⟨S16384x2048, .f32⟩) main_call11_v1) (broadcastInDim S16384x2048 ![] bcast_S_S16384x2048),
    TRef.ternary (TRef.of (T := ⟨S16384x2048, .i1⟩) main_v56) (TRef.of (T := ⟨S16384x2048, .f32⟩) main_call11_v1) (TRef.of (T := ⟨S16384x2048, .f32⟩) main_v40) (TRef.of (T := ⟨S16384x2048, .f32⟩) main_v57) select,
    unary main_arg2 main_v58 (broadcastInDim S1x2048 ![1] bcast_S2048_S1x2048_1 : (⟨S2048, .i32⟩ : BufTy).Contents (Elt F) → (⟨S1x2048, .i32⟩ : BufTy).Contents (Elt F)),
    unary main_v49 main_v59 (broadcastInDim S16384x1 ![0] bcast_S16384_S16384x1_0 : (⟨S16384, .i32⟩ : BufTy).Contents (Elt F) → (⟨S16384x1, .i32⟩ : BufTy).Contents (Elt F)),
    unary main_v58 main_v60 (broadcastInDim S16384x2048 ![0, 1] bcast_S1x2048_S16384x2048_0_1 : (⟨S1x2048, .i32⟩ : BufTy).Contents (Elt F) → (⟨S16384x2048, .i32⟩ : BufTy).Contents (Elt F)),
    unary main_v59 main_v61 (broadcastInDim S16384x2048 ![0, 1] bcast_S16384x1_S16384x2048_0_1 : (⟨S16384x1, .i32⟩ : BufTy).Contents (Elt F) → (⟨S16384x2048, .i32⟩ : BufTy).Contents (Elt F)),
    binary main_v60 main_v61 main_v62 (cmpi .eq : (⟨S16384x2048, .i32⟩ : BufTy).Contents (Elt F) → (⟨S16384x2048, .i32⟩ : BufTy).Contents (Elt F) → (⟨S16384x2048, .i1⟩ : BufTy).Contents (Elt F)),
    nullary main_cst_11 (constant S_ .f32 0xFF800000#32),
    TRef.unary (TRef.of (T := ⟨S_, .f32⟩) main_cst_11) (TRef.of (T := ⟨S16384x2048, .f32⟩) main_call12_v0) (broadcastInDim S16384x2048 ![] bcast_S_S16384x2048),
    TRef.ternary (TRef.of (T := ⟨S16384x2048, .i1⟩) main_v62) (TRef.of (T := ⟨S16384x2048, .f32⟩) main_arg0) (TRef.of (T := ⟨S16384x2048, .f32⟩) main_call12_v0) (TRef.of (T := ⟨S16384x2048, .f32⟩) main_v63) select,
    nullary main_c_12 (constantI S_ 1 0#1),
    binary main_v62 main_c_12 main_v64 ((fun x v => Host.reduce IntOp.ori x v reducesTo_S16384x2048_S16384_d1 h_S_) : (⟨S16384x2048, .i1⟩ : BufTy).Contents (Elt F) → (⟨S_, .i1⟩ : BufTy).Contents (Elt F) → (⟨S16384, .i1⟩ : BufTy).Contents (Elt F)),
    TRef.nullary (TRef.of (T := ⟨S16384x2048, .i32⟩) main_call13_v0) (iotaInDim S16384x2048 32 1),
    TRef.nullary (TRef.of (T := ⟨S_, .f32⟩) main_call13_cst) (constant S_ .f32 0xFF800000#32),
    TRef.nullary (TRef.of (T := ⟨S_, .i32⟩) main_call13_c) (constantI S_ 32 0#32) ]

/-- @main's operations 106 … 135 of 224 (window `main_part1`). -/
abbrev ops_part1_1 : List (HloOp τ sig (Elt F)) :=
  [ TRef.quaternary (TRef.of (T := ⟨S16384x2048, .f32⟩) main_v63) (TRef.of (T := ⟨S16384x2048, .i32⟩) main_call13_v0) (TRef.of (T := ⟨S_, .f32⟩) main_call13_cst) (TRef.of (T := ⟨S_, .i32⟩) main_call13_c) (TRef.of (T := ⟨S16384, .f32⟩) main_call13_v1_0) (fun x y u v j => (Host.argReduce reducer_argmax_f32_i32 x y u v reducesTo_S16384x2048_S16384_d1 h_S_ j).1),
    TRef.quaternary (TRef.of (T := ⟨S16384x2048, .f32⟩) main_v63) (TRef.of (T := ⟨S16384x2048, .i32⟩) main_call13_v0) (TRef.of (T := ⟨S_, .f32⟩) main_call13_cst) (TRef.of (T := ⟨S_, .i32⟩) main_call13_c) (TRef.of (T := ⟨S16384, .i32⟩) main_v65) (fun x y u v j => (Host.argReduce reducer_argmax_f32_i32 x y u v reducesTo_S16384x2048_S16384_d1 h_S_ j).2),
    TRef.ternary (TRef.of (T := ⟨S16384, .i1⟩) main_v64) (TRef.of (T := ⟨S16384, .i32⟩) main_v65) (TRef.of (T := ⟨S16384, .i32⟩) main_v49) (TRef.of (T := ⟨S16384, .i32⟩) main_v66) select,
    unary main_v64 main_v67 (broadcastInDim S16384x1 ![0] bcast_S16384_S16384x1_0 : (⟨S16384, .i1⟩ : BufTy).Contents (Elt F) → (⟨S16384x1, .i1⟩ : BufTy).Contents (Elt F)),
    unary main_v66 main_v68 (broadcastInDim S16384x1 ![0] bcast_S16384_S16384x1_0 : (⟨S16384, .i32⟩ : BufTy).Contents (Elt F) → (⟨S16384x1, .i32⟩ : BufTy).Contents (Elt F)),
    unary main_v1 main_v69 (broadcastInDim S16384x2048 ![0, 1] bcast_S1x2048_S16384x2048_0_1 : (⟨S1x2048, .i32⟩ : BufTy).Contents (Elt F) → (⟨S16384x2048, .i32⟩ : BufTy).Contents (Elt F)),
    unary main_v68 main_v70 (broadcastInDim S16384x2048 ![0, 1] bcast_S16384x1_S16384x2048_0_1 : (⟨S16384x1, .i32⟩ : BufTy).Contents (Elt F) → (⟨S16384x2048, .i32⟩ : BufTy).Contents (Elt F)),
    binary main_v69 main_v70 main_v71 (cmpi .eq : (⟨S16384x2048, .i32⟩ : BufTy).Contents (Elt F) → (⟨S16384x2048, .i32⟩ : BufTy).Contents (Elt F) → (⟨S16384x2048, .i1⟩ : BufTy).Contents (Elt F)),
    unary main_v67 main_v72 (broadcastInDim S16384x2048 ![0, 1] bcast_S16384x1_S16384x2048_0_1 : (⟨S16384x1, .i1⟩ : BufTy).Contents (Elt F) → (⟨S16384x2048, .i1⟩ : BufTy).Contents (Elt F)),
    binary main_v72 main_v71 main_v73 (andi : (⟨S16384x2048, .i1⟩ : BufTy).Contents (Elt F) → (⟨S16384x2048, .i1⟩ : BufTy).Contents (Elt F) → (⟨S16384x2048, .i1⟩ : BufTy).Contents (Elt F)),
    nullary main_cst_13 (constant S_ .f32 0x3F800000#32),
    TRef.unary (TRef.of (T := ⟨S_, .f32⟩) main_cst_13) (TRef.of (T := ⟨S_, .f32⟩) main_call15_v0) id,
    TRef.unary (TRef.of (T := ⟨S_, .f32⟩) main_call15_v0) (TRef.of (T := ⟨S16384x2048, .f32⟩) main_call15_v1) (broadcastInDim S16384x2048 ![] bcast_S_S16384x2048),
    TRef.ternary (TRef.of (T := ⟨S16384x2048, .i1⟩) main_v73) (TRef.of (T := ⟨S16384x2048, .f32⟩) main_call15_v1) (TRef.of (T := ⟨S16384x2048, .f32⟩) main_v57) (TRef.of (T := ⟨S16384x2048, .f32⟩) main_v74) select,
    TRef.nullary (TRef.of (T := ⟨S_, .f32⟩) main_call16_cst) (constant S_ .f32 0x00000000#32),
    TRef.unary (TRef.of (T := ⟨S_, .f32⟩) main_call16_cst) (TRef.of (T := ⟨S16384x2048, .f32⟩) main_call16_v0) (broadcastInDim S16384x2048 ![] bcast_S_S16384x2048),
    TRef.binary (TRef.of (T := ⟨S16384x2048, .f32⟩) main_arg0) (TRef.of (T := ⟨S16384x2048, .f32⟩) main_call16_v0) (TRef.of (T := ⟨S16384x2048, .f32⟩) main_call16_v1) maximumf,
    TRef.unary (TRef.of (T := ⟨S_, .f32⟩) main_call16_cst) (TRef.of (T := ⟨S16384x2048, .f32⟩) main_call16_v2) (broadcastInDim S16384x2048 ![] bcast_S_S16384x2048),
    TRef.binary (TRef.of (T := ⟨S16384x2048, .f32⟩) main_arg0) (TRef.of (T := ⟨S16384x2048, .f32⟩) main_call16_v2) (TRef.of (T := ⟨S16384x2048, .f32⟩) main_call16_v3) subf,
    TRef.binary (TRef.of (T := ⟨S16384x2048, .f32⟩) main_call16_v3) (TRef.of (T := ⟨S16384x2048, .f32⟩) main_call16_v3) (TRef.of (T := ⟨S16384x2048, .i1⟩) main_call16_v4) (cmpf .une),
    TRef.unary (TRef.of (T := ⟨S_, .f32⟩) main_call16_cst) (TRef.of (T := ⟨S16384x2048, .f32⟩) main_call16_v5) (broadcastInDim S16384x2048 ![] bcast_S_S16384x2048),
    TRef.binary (TRef.of (T := ⟨S16384x2048, .f32⟩) main_arg0) (TRef.of (T := ⟨S16384x2048, .f32⟩) main_call16_v5) (TRef.of (T := ⟨S16384x2048, .f32⟩) main_call16_v6) addf,
    TRef.unary (TRef.of (T := ⟨S16384x2048, .f32⟩) main_call16_v3) (TRef.of (T := ⟨S16384x2048, .f32⟩) main_call16_v7) Host.absf,
    TRef.unary (TRef.of (T := ⟨S16384x2048, .f32⟩) main_call16_v7) (TRef.of (T := ⟨S16384x2048, .f32⟩) main_call16_v8) Host.negf,
    TRef.unary (TRef.of (T := ⟨S16384x2048, .f32⟩) main_call16_v8) (TRef.of (T := ⟨S16384x2048, .f32⟩) main_call16_v9) Host.exp,
    TRef.unary (TRef.of (T := ⟨S16384x2048, .f32⟩) main_call16_v9) (TRef.of (T := ⟨S16384x2048, .f32⟩) main_call16_v10) Host.log1p,
    TRef.binary (TRef.of (T := ⟨S16384x2048, .f32⟩) main_call16_v1) (TRef.of (T := ⟨S16384x2048, .f32⟩) main_call16_v10) (TRef.of (T := ⟨S16384x2048, .f32⟩) main_call16_v11) addf,
    TRef.ternary (TRef.of (T := ⟨S16384x2048, .i1⟩) main_call16_v4) (TRef.of (T := ⟨S16384x2048, .f32⟩) main_call16_v6) (TRef.of (T := ⟨S16384x2048, .f32⟩) main_call16_v11) (TRef.of (T := ⟨S16384x2048, .f32⟩) main_v75) select,
    binary main_arg0 main_arg1 main_v76 (mulf : (⟨S16384x2048, .f32⟩ : BufTy).Contents (Elt F) → (⟨S16384x2048, .f32⟩ : BufTy).Contents (Elt F) → (⟨S16384x2048, .f32⟩ : BufTy).Contents (Elt F)),
    binary main_v75 main_v76 main_v77 (subf : (⟨S16384x2048, .f32⟩ : BufTy).Contents (Elt F) → (⟨S16384x2048, .f32⟩ : BufTy).Contents (Elt F) → (⟨S16384x2048, .f32⟩ : BufTy).Contents (Elt F)) ]

/-- @main's operations 136 … 163 of 224 (window `main_part1`). -/
abbrev ops_part1_2 : List (HloOp τ sig (Elt F)) :=
  [ nullary main_c_14 (constantI S_ 32 0#32),
    unary main_c_14 main_v78 (broadcastInDim S2048 ![] bcast_S_S2048 : (⟨S_, .i32⟩ : BufTy).Contents (Elt F) → (⟨S2048, .i32⟩ : BufTy).Contents (Elt F)),
    binary main_arg2 main_v78 main_v79 (cmpi .sge : (⟨S2048, .i32⟩ : BufTy).Contents (Elt F) → (⟨S2048, .i32⟩ : BufTy).Contents (Elt F) → (⟨S2048, .i1⟩ : BufTy).Contents (Elt F)),
    nullary main_c_15 (constantI S_ 32 0#32),
    TRef.unary (TRef.of (T := ⟨S_, .i32⟩) main_c_15) (TRef.of (T := ⟨S_, .i32⟩) main_call17_v0) id,
    TRef.unary (TRef.of (T := ⟨S_, .i32⟩) main_call17_v0) (TRef.of (T := ⟨S2048, .i32⟩) main_call17_v1) (broadcastInDim S2048 ![] bcast_S_S2048),
    TRef.binary (TRef.of (T := ⟨S2048, .i32⟩) main_call17_v1) (TRef.of (T := ⟨S2048, .i32⟩) main_arg2) (TRef.of (T := ⟨S2048, .i32⟩) main_v80) maxsi,
    nullary main_cst_16 (constant S_ .f32 0x3F800000#32),
    unary main_cst_16 main_v81 (broadcastInDim S16384x2048 ![] bcast_S_S16384x2048 : (⟨S_, .f32⟩ : BufTy).Contents (Elt F) → (⟨S16384x2048, .f32⟩ : BufTy).Contents (Elt F)),
    binary main_v74 main_v81 main_v82 (cmpf .oeq : (⟨S16384x2048, .f32⟩ : BufTy).Contents (Elt F) → (⟨S16384x2048, .f32⟩ : BufTy).Contents (Elt F) → (⟨S16384x2048, .i1⟩ : BufTy).Contents (Elt F)),
    nullary main_cst_17 (constant S_ .f32 0x00000000#32),
    unary main_cst_17 main_v83 (broadcastInDim S16384x2048 ![] bcast_S_S16384x2048 : (⟨S_, .f32⟩ : BufTy).Contents (Elt F) → (⟨S16384x2048, .f32⟩ : BufTy).Contents (Elt F)),
    binary main_arg1 main_v83 main_v84 (cmpf .oeq : (⟨S16384x2048, .f32⟩ : BufTy).Contents (Elt F) → (⟨S16384x2048, .f32⟩ : BufTy).Contents (Elt F) → (⟨S16384x2048, .i1⟩ : BufTy).Contents (Elt F)),
    binary main_v82 main_v84 main_v85 (andi : (⟨S16384x2048, .i1⟩ : BufTy).Contents (Elt F) → (⟨S16384x2048, .i1⟩ : BufTy).Contents (Elt F) → (⟨S16384x2048, .i1⟩ : BufTy).Contents (Elt F)),
    unary main_v79 main_v86 (broadcastInDim S1x2048 ![1] bcast_S2048_S1x2048_1 : (⟨S2048, .i1⟩ : BufTy).Contents (Elt F) → (⟨S1x2048, .i1⟩ : BufTy).Contents (Elt F)),
    unary main_v86 main_v87 (broadcastInDim S16384x2048 ![0, 1] bcast_S1x2048_S16384x2048_0_1 : (⟨S1x2048, .i1⟩ : BufTy).Contents (Elt F) → (⟨S16384x2048, .i1⟩ : BufTy).Contents (Elt F)),
    binary main_v85 main_v87 main_v88 (andi : (⟨S16384x2048, .i1⟩ : BufTy).Contents (Elt F) → (⟨S16384x2048, .i1⟩ : BufTy).Contents (Elt F) → (⟨S16384x2048, .i1⟩ : BufTy).Contents (Elt F)),
    nullary main_c_18 (constantI S_ 32 0#32),
    unary main_c_18 main_v89 (broadcastInDim S2048 ![] bcast_S_S2048 : (⟨S_, .i32⟩ : BufTy).Contents (Elt F) → (⟨S2048, .i32⟩ : BufTy).Contents (Elt F)),
    binary main_v80 main_v89 main_v90 (cmpi .slt : (⟨S2048, .i32⟩ : BufTy).Contents (Elt F) → (⟨S2048, .i32⟩ : BufTy).Contents (Elt F) → (⟨S2048, .i1⟩ : BufTy).Contents (Elt F)),
    nullary main_c_19 (constantI S_ 32 2048#32),
    unary main_c_19 main_v91 (broadcastInDim S2048 ![] bcast_S_S2048 : (⟨S_, .i32⟩ : BufTy).Contents (Elt F) → (⟨S2048, .i32⟩ : BufTy).Contents (Elt F)),
    binary main_v80 main_v91 main_v92 (addi : (⟨S2048, .i32⟩ : BufTy).Contents (Elt F) → (⟨S2048, .i32⟩ : BufTy).Contents (Elt F) → (⟨S2048, .i32⟩ : BufTy).Contents (Elt F)),
    ternary main_v90 main_v92 main_v80 main_v93 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v93 main_v94 (broadcastInDim S2048x1 ![0] bcast_S2048_S2048x1_0 : (⟨S2048, .i32⟩ : BufTy).Contents (Elt F) → (⟨S2048x1, .i32⟩ : BufTy).Contents (Elt F)),
    binary main_v77 main_v94 main_v95 ((fun x i => Host.gather gather_S16384x2048_S2048x1_S16384x2048_0_1_n_n_1_1_163841 x i) : (⟨S16384x2048, .f32⟩ : BufTy).Contents (Elt F) → (⟨S2048x1, .i32⟩ : BufTy).Contents (Elt F) → (⟨S16384x2048, .f32⟩ : BufTy).Contents (Elt F)),
    unary main_arg3 main_v96 (broadcastInDim S1x2048 ![1] bcast_S2048_S1x2048_1 : (⟨S2048, .i32⟩ : BufTy).Contents (Elt F) → (⟨S1x2048, .i32⟩ : BufTy).Contents (Elt F)),
    nullary main_c_20 (constantI S_ 32 1#32) ]

/-- Window `main_part1`'s operations. Not an abbreviation: `main_eq` below splits `ops` into the windows and no further. -/
def ops_part1 : List (HloOp τ sig (Elt F)) :=
  ops_part1_0 ++ (ops_part1_1 ++ (ops_part1_2))

/-- @main's operations 164 … 223 of 224 (window `main_part2`). -/
abbrev ops_part2 : List (HloOp τ sig (Elt F)) :=
  [ unary main_c_20 main_v97 (broadcastInDim S1x2048 ![] bcast_S_S1x2048 : (⟨S_, .i32⟩ : BufTy).Contents (Elt F) → (⟨S1x2048, .i32⟩ : BufTy).Contents (Elt F)),
    binary main_v96 main_v97 main_v98 (cmpi .eq : (⟨S1x2048, .i32⟩ : BufTy).Contents (Elt F) → (⟨S1x2048, .i32⟩ : BufTy).Contents (Elt F) → (⟨S1x2048, .i1⟩ : BufTy).Contents (Elt F)),
    unary main_v98 main_v99 (broadcastInDim S16384x2048 ![0, 1] bcast_S1x2048_S16384x2048_0_1 : (⟨S1x2048, .i1⟩ : BufTy).Contents (Elt F) → (⟨S16384x2048, .i1⟩ : BufTy).Contents (Elt F)),
    binary main_v88 main_v99 main_v100 (andi : (⟨S16384x2048, .i1⟩ : BufTy).Contents (Elt F) → (⟨S16384x2048, .i1⟩ : BufTy).Contents (Elt F) → (⟨S16384x2048, .i1⟩ : BufTy).Contents (Elt F)),
    binary main_v77 main_v95 main_v101 (addf : (⟨S16384x2048, .f32⟩ : BufTy).Contents (Elt F) → (⟨S16384x2048, .f32⟩ : BufTy).Contents (Elt F) → (⟨S16384x2048, .f32⟩ : BufTy).Contents (Elt F)),
    TRef.ternary (TRef.of (T := ⟨S16384x2048, .i1⟩) main_v100) (TRef.of (T := ⟨S16384x2048, .f32⟩) main_v101) (TRef.of (T := ⟨S16384x2048, .f32⟩) main_v77) (TRef.of (T := ⟨S16384x2048, .f32⟩) main_v102) select,
    nullary main_c_21 (constantI S_ 32 0#32),
    unary main_c_21 main_v103 (broadcastInDim S2048 ![] bcast_S_S2048 : (⟨S_, .i32⟩ : BufTy).Contents (Elt F) → (⟨S2048, .i32⟩ : BufTy).Contents (Elt F)),
    binary main_v80 main_v103 main_v104 (cmpi .slt : (⟨S2048, .i32⟩ : BufTy).Contents (Elt F) → (⟨S2048, .i32⟩ : BufTy).Contents (Elt F) → (⟨S2048, .i1⟩ : BufTy).Contents (Elt F)),
    nullary main_c_22 (constantI S_ 32 2048#32),
    unary main_c_22 main_v105 (broadcastInDim S2048 ![] bcast_S_S2048 : (⟨S_, .i32⟩ : BufTy).Contents (Elt F) → (⟨S2048, .i32⟩ : BufTy).Contents (Elt F)),
    binary main_v80 main_v105 main_v106 (addi : (⟨S2048, .i32⟩ : BufTy).Contents (Elt F) → (⟨S2048, .i32⟩ : BufTy).Contents (Elt F) → (⟨S2048, .i32⟩ : BufTy).Contents (Elt F)),
    ternary main_v104 main_v106 main_v80 main_v107 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v107 main_v108 (broadcastInDim S2048x1 ![0] bcast_S2048_S2048x1_0 : (⟨S2048, .i32⟩ : BufTy).Contents (Elt F) → (⟨S2048x1, .i32⟩ : BufTy).Contents (Elt F)),
    binary main_v102 main_v108 main_v109 ((fun x i => Host.gather gather_S16384x2048_S2048x1_S16384x2048_0_1_n_n_1_1_163841 x i) : (⟨S16384x2048, .f32⟩ : BufTy).Contents (Elt F) → (⟨S2048x1, .i32⟩ : BufTy).Contents (Elt F) → (⟨S16384x2048, .f32⟩ : BufTy).Contents (Elt F)),
    unary main_arg3 main_v110 (broadcastInDim S1x2048 ![1] bcast_S2048_S1x2048_1 : (⟨S2048, .i32⟩ : BufTy).Contents (Elt F) → (⟨S1x2048, .i32⟩ : BufTy).Contents (Elt F)),
    nullary main_c_23 (constantI S_ 32 2#32),
    unary main_c_23 main_v111 (broadcastInDim S1x2048 ![] bcast_S_S1x2048 : (⟨S_, .i32⟩ : BufTy).Contents (Elt F) → (⟨S1x2048, .i32⟩ : BufTy).Contents (Elt F)),
    binary main_v110 main_v111 main_v112 (cmpi .eq : (⟨S1x2048, .i32⟩ : BufTy).Contents (Elt F) → (⟨S1x2048, .i32⟩ : BufTy).Contents (Elt F) → (⟨S1x2048, .i1⟩ : BufTy).Contents (Elt F)),
    unary main_v112 main_v113 (broadcastInDim S16384x2048 ![0, 1] bcast_S1x2048_S16384x2048_0_1 : (⟨S1x2048, .i1⟩ : BufTy).Contents (Elt F) → (⟨S16384x2048, .i1⟩ : BufTy).Contents (Elt F)),
    binary main_v88 main_v113 main_v114 (andi : (⟨S16384x2048, .i1⟩ : BufTy).Contents (Elt F) → (⟨S16384x2048, .i1⟩ : BufTy).Contents (Elt F) → (⟨S16384x2048, .i1⟩ : BufTy).Contents (Elt F)),
    binary main_v102 main_v109 main_v115 (addf : (⟨S16384x2048, .f32⟩ : BufTy).Contents (Elt F) → (⟨S16384x2048, .f32⟩ : BufTy).Contents (Elt F) → (⟨S16384x2048, .f32⟩ : BufTy).Contents (Elt F)),
    TRef.ternary (TRef.of (T := ⟨S16384x2048, .i1⟩) main_v114) (TRef.of (T := ⟨S16384x2048, .f32⟩) main_v115) (TRef.of (T := ⟨S16384x2048, .f32⟩) main_v102) (TRef.of (T := ⟨S16384x2048, .f32⟩) main_v116) select,
    nullary main_c_24 (constantI S_ 32 0#32),
    unary main_c_24 main_v117 (broadcastInDim S2048 ![] bcast_S_S2048 : (⟨S_, .i32⟩ : BufTy).Contents (Elt F) → (⟨S2048, .i32⟩ : BufTy).Contents (Elt F)),
    binary main_v80 main_v117 main_v118 (cmpi .slt : (⟨S2048, .i32⟩ : BufTy).Contents (Elt F) → (⟨S2048, .i32⟩ : BufTy).Contents (Elt F) → (⟨S2048, .i1⟩ : BufTy).Contents (Elt F)),
    nullary main_c_25 (constantI S_ 32 2048#32),
    unary main_c_25 main_v119 (broadcastInDim S2048 ![] bcast_S_S2048 : (⟨S_, .i32⟩ : BufTy).Contents (Elt F) → (⟨S2048, .i32⟩ : BufTy).Contents (Elt F)),
    binary main_v80 main_v119 main_v120 (addi : (⟨S2048, .i32⟩ : BufTy).Contents (Elt F) → (⟨S2048, .i32⟩ : BufTy).Contents (Elt F) → (⟨S2048, .i32⟩ : BufTy).Contents (Elt F)),
    ternary main_v118 main_v120 main_v80 main_v121 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v121 main_v122 (broadcastInDim S2048x1 ![0] bcast_S2048_S2048x1_0 : (⟨S2048, .i32⟩ : BufTy).Contents (Elt F) → (⟨S2048x1, .i32⟩ : BufTy).Contents (Elt F)),
    binary main_v116 main_v122 main_v123 ((fun x i => Host.gather gather_S16384x2048_S2048x1_S16384x2048_0_1_n_n_1_1_163841 x i) : (⟨S16384x2048, .f32⟩ : BufTy).Contents (Elt F) → (⟨S2048x1, .i32⟩ : BufTy).Contents (Elt F) → (⟨S16384x2048, .f32⟩ : BufTy).Contents (Elt F)),
    unary main_arg3 main_v124 (broadcastInDim S1x2048 ![1] bcast_S2048_S1x2048_1 : (⟨S2048, .i32⟩ : BufTy).Contents (Elt F) → (⟨S1x2048, .i32⟩ : BufTy).Contents (Elt F)),
    nullary main_c_26 (constantI S_ 32 3#32),
    unary main_c_26 main_v125 (broadcastInDim S1x2048 ![] bcast_S_S1x2048 : (⟨S_, .i32⟩ : BufTy).Contents (Elt F) → (⟨S1x2048, .i32⟩ : BufTy).Contents (Elt F)),
    binary main_v124 main_v125 main_v126 (cmpi .eq : (⟨S1x2048, .i32⟩ : BufTy).Contents (Elt F) → (⟨S1x2048, .i32⟩ : BufTy).Contents (Elt F) → (⟨S1x2048, .i1⟩ : BufTy).Contents (Elt F)),
    unary main_v126 main_v127 (broadcastInDim S16384x2048 ![0, 1] bcast_S1x2048_S16384x2048_0_1 : (⟨S1x2048, .i1⟩ : BufTy).Contents (Elt F) → (⟨S16384x2048, .i1⟩ : BufTy).Contents (Elt F)),
    binary main_v88 main_v127 main_v128 (andi : (⟨S16384x2048, .i1⟩ : BufTy).Contents (Elt F) → (⟨S16384x2048, .i1⟩ : BufTy).Contents (Elt F) → (⟨S16384x2048, .i1⟩ : BufTy).Contents (Elt F)),
    binary main_v116 main_v123 main_v129 (addf : (⟨S16384x2048, .f32⟩ : BufTy).Contents (Elt F) → (⟨S16384x2048, .f32⟩ : BufTy).Contents (Elt F) → (⟨S16384x2048, .f32⟩ : BufTy).Contents (Elt F)),
    TRef.ternary (TRef.of (T := ⟨S16384x2048, .i1⟩) main_v128) (TRef.of (T := ⟨S16384x2048, .f32⟩) main_v129) (TRef.of (T := ⟨S16384x2048, .f32⟩) main_v116) (TRef.of (T := ⟨S16384x2048, .f32⟩) main_v130) select,
    nullary main_c_27 (constantI S_ 32 0#32),
    unary main_c_27 main_v131 (broadcastInDim S2048 ![] bcast_S_S2048 : (⟨S_, .i32⟩ : BufTy).Contents (Elt F) → (⟨S2048, .i32⟩ : BufTy).Contents (Elt F)),
    binary main_v80 main_v131 main_v132 (cmpi .slt : (⟨S2048, .i32⟩ : BufTy).Contents (Elt F) → (⟨S2048, .i32⟩ : BufTy).Contents (Elt F) → (⟨S2048, .i1⟩ : BufTy).Contents (Elt F)),
    nullary main_c_28 (constantI S_ 32 2048#32),
    unary main_c_28 main_v133 (broadcastInDim S2048 ![] bcast_S_S2048 : (⟨S_, .i32⟩ : BufTy).Contents (Elt F) → (⟨S2048, .i32⟩ : BufTy).Contents (Elt F)),
    binary main_v80 main_v133 main_v134 (addi : (⟨S2048, .i32⟩ : BufTy).Contents (Elt F) → (⟨S2048, .i32⟩ : BufTy).Contents (Elt F) → (⟨S2048, .i32⟩ : BufTy).Contents (Elt F)),
    ternary main_v132 main_v134 main_v80 main_v135 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v135 main_v136 (broadcastInDim S2048x1 ![0] bcast_S2048_S2048x1_0 : (⟨S2048, .i32⟩ : BufTy).Contents (Elt F) → (⟨S2048x1, .i32⟩ : BufTy).Contents (Elt F)),
    binary main_v130 main_v136 main_v137 ((fun x i => Host.gather gather_S16384x2048_S2048x1_S16384x2048_0_1_n_n_1_1_163841 x i) : (⟨S16384x2048, .f32⟩ : BufTy).Contents (Elt F) → (⟨S2048x1, .i32⟩ : BufTy).Contents (Elt F) → (⟨S16384x2048, .f32⟩ : BufTy).Contents (Elt F)),
    unary main_arg3 main_v138 (broadcastInDim S1x2048 ![1] bcast_S2048_S1x2048_1 : (⟨S2048, .i32⟩ : BufTy).Contents (Elt F) → (⟨S1x2048, .i32⟩ : BufTy).Contents (Elt F)),
    nullary main_c_29 (constantI S_ 32 4#32),
    unary main_c_29 main_v139 (broadcastInDim S1x2048 ![] bcast_S_S1x2048 : (⟨S_, .i32⟩ : BufTy).Contents (Elt F) → (⟨S1x2048, .i32⟩ : BufTy).Contents (Elt F)),
    binary main_v138 main_v139 main_v140 (cmpi .eq : (⟨S1x2048, .i32⟩ : BufTy).Contents (Elt F) → (⟨S1x2048, .i32⟩ : BufTy).Contents (Elt F) → (⟨S1x2048, .i1⟩ : BufTy).Contents (Elt F)),
    unary main_v140 main_v141 (broadcastInDim S16384x2048 ![0, 1] bcast_S1x2048_S16384x2048_0_1 : (⟨S1x2048, .i1⟩ : BufTy).Contents (Elt F) → (⟨S16384x2048, .i1⟩ : BufTy).Contents (Elt F)),
    binary main_v88 main_v141 main_v142 (andi : (⟨S16384x2048, .i1⟩ : BufTy).Contents (Elt F) → (⟨S16384x2048, .i1⟩ : BufTy).Contents (Elt F) → (⟨S16384x2048, .i1⟩ : BufTy).Contents (Elt F)),
    binary main_v130 main_v137 main_v143 (addf : (⟨S16384x2048, .f32⟩ : BufTy).Contents (Elt F) → (⟨S16384x2048, .f32⟩ : BufTy).Contents (Elt F) → (⟨S16384x2048, .f32⟩ : BufTy).Contents (Elt F)),
    TRef.ternary (TRef.of (T := ⟨S16384x2048, .i1⟩) main_v142) (TRef.of (T := ⟨S16384x2048, .f32⟩) main_v143) (TRef.of (T := ⟨S16384x2048, .f32⟩) main_v130) (TRef.of (T := ⟨S16384x2048, .f32⟩) main_v144) select,
    nullary main_cst_30 (constant S_ .f32 0x00000000#32),
    binary main_v144 main_cst_30 main_v145 ((fun x v => Host.reduceAdd x v reducesTo_S16384x2048_S_d0_1 h_S_) : (⟨S16384x2048, .f32⟩ : BufTy).Contents (Elt F) → (⟨S_, .f32⟩ : BufTy).Contents (Elt F) → (⟨S_, .f32⟩ : BufTy).Contents (Elt F)),
    nullary main_cst_31 (constant S_ .f32 0x4C000000#32) ]

/-- @main's operations 224 … 224 of 224 (window `main_part3`). -/
abbrev ops_part3 : List (HloOp τ sig (Elt F)) :=
  [ binary main_v145 main_cst_31 main_v146 (Host.divf : (⟨S_, .f32⟩ : BufTy).Contents (Elt F) → (⟨S_, .f32⟩ : BufTy).Contents (Elt F) → (⟨S_, .f32⟩ : BufTy).Contents (Elt F)) ]

/-- @main's 224 operations, in order (a called function's operations stand in its call's place, spelt `TRef.…`). -/
abbrev ops : List (HloOp τ sig (Elt F)) :=
  ops_part0 ++ (ops_part1 ++ (ops_part2 ++ (ops_part3)))

/-- One operation followed by a line is the line with that operation in front. -/
theorem line_cons (op : HloOp τ sig (Elt F)) (l : List (HloOp τ sig (Elt F))) :
    ((hlo rfl op fun _ => .ret (⟨⟩ : PUnit)) >>= fun _ => seq l : Prog (TpuEff nD τ sig (Elt F) (Pipeline.Sig Λ₀ (Fin 0) fun p => (pcfgs (F := F) p).Adm) .tc) PUnit) = seq (op :: l) := rfl

/-- One operation is a line of one. -/
theorem line_one (op : HloOp τ sig (Elt F)) :
    (hlo rfl op fun _ => .ret (⟨⟩ : PUnit) : Prog (TpuEff nD τ sig (Elt F) (Pipeline.Sig Λ₀ (Fin 0) fun p => (pcfgs (F := F) p).Adm) .tc) PUnit) = seq [op] := rfl

/-- A call of `fn_where` is the line of its body's operations. -/
theorem fn_where_eq (arg0 : StableHlo.TRef sig ⟨S16384x2048, .i1⟩) (arg1 : StableHlo.TRef sig ⟨S16384x2048, .f32⟩) (arg2 : StableHlo.TRef sig ⟨S_, .f32⟩) (φ : fn_where.Bufs) :
    fn_where.body (F := F) arg0 arg1 arg2 φ = seq [
      TRef.unary arg2 φ.v0 (broadcastInDim S16384x2048 ![] bcast_S_S16384x2048),
      TRef.ternary arg0 arg1 φ.v0 φ.v1 select] := rfl

/-- A call of `fn_argmax` is the line of its body's operations. -/
theorem fn_argmax_eq (arg0 : StableHlo.TRef sig ⟨S16384x2048, .f32⟩) (φ : fn_argmax.Bufs) :
    fn_argmax.body (F := F) arg0 φ = seq [
      TRef.nullary φ.v0 (iotaInDim S16384x2048 32 1),
      TRef.nullary φ.cst (constant S_ .f32 0xFF800000#32),
      TRef.nullary φ.c (constantI S_ 32 0#32),
      TRef.quaternary arg0 φ.v0 φ.cst φ.c φ.v1_0 (fun x y u v j => (Host.argReduce reducer_argmax_f32_i32 x y u v reducesTo_S16384x2048_S16384_d1 h_S_ j).1),
      TRef.quaternary arg0 φ.v0 φ.cst φ.c φ.v1_1 (fun x y u v j => (Host.argReduce reducer_argmax_f32_i32 x y u v reducesTo_S16384x2048_S16384_d1 h_S_ j).2)] := rfl

/-- A call of `fn_where_0` is the line of its body's operations. -/
theorem fn_where_0_eq (arg0 : StableHlo.TRef sig ⟨S16384, .i1⟩) (arg1 : StableHlo.TRef sig ⟨S16384, .i32⟩) (arg2 : StableHlo.TRef sig ⟨S16384, .i32⟩) (φ : fn_where_0.Bufs) :
    fn_where_0.body (F := F) arg0 arg1 arg2 φ = seq [
      TRef.ternary arg0 arg1 arg2 φ.v0 select] := rfl

/-- A call of `fn_where_1` is the line of its body's operations. -/
theorem fn_where_1_eq (arg0 : StableHlo.TRef sig ⟨S16384x2048, .i1⟩) (arg1 : StableHlo.TRef sig ⟨S_, .f32⟩) (arg2 : StableHlo.TRef sig ⟨S16384x2048, .f32⟩) (φ : fn_where_1.Bufs) :
    fn_where_1.body (F := F) arg0 arg1 arg2 φ = seq [
      TRef.unary arg1 φ.v0 id,
      TRef.unary φ.v0 φ.v1 (broadcastInDim S16384x2048 ![] bcast_S_S16384x2048),
      TRef.ternary arg0 φ.v1 arg2 φ.v2 select] := rfl

/-- A call of `fn_softplus` is the line of its body's operations. -/
theorem fn_softplus_eq (arg0 : StableHlo.TRef sig ⟨S16384x2048, .f32⟩) (φ : fn_softplus.Bufs) :
    fn_softplus.body (F := F) arg0 φ = seq [
      TRef.nullary φ.cst (constant S_ .f32 0x00000000#32),
      TRef.unary φ.cst φ.v0 (broadcastInDim S16384x2048 ![] bcast_S_S16384x2048),
      TRef.binary arg0 φ.v0 φ.v1 maximumf,
      TRef.unary φ.cst φ.v2 (broadcastInDim S16384x2048 ![] bcast_S_S16384x2048),
      TRef.binary arg0 φ.v2 φ.v3 subf,
      TRef.binary φ.v3 φ.v3 φ.v4 (cmpf .une),
      TRef.unary φ.cst φ.v5 (broadcastInDim S16384x2048 ![] bcast_S_S16384x2048),
      TRef.binary arg0 φ.v5 φ.v6 addf,
      TRef.unary φ.v3 φ.v7 Host.absf,
      TRef.unary φ.v7 φ.v8 Host.negf,
      TRef.unary φ.v8 φ.v9 Host.exp,
      TRef.unary φ.v9 φ.v10 Host.log1p,
      TRef.binary φ.v1 φ.v10 φ.v11 addf,
      TRef.ternary φ.v4 φ.v6 φ.v11 φ.v12 select] := rfl

/-- A call of `fn_clip` is the line of its body's operations. -/
theorem fn_clip_eq (arg0 : StableHlo.TRef sig ⟨S2048, .i32⟩) (arg1 : StableHlo.TRef sig ⟨S_, .i32⟩) (φ : fn_clip.Bufs) :
    fn_clip.body (F := F) arg0 arg1 φ = seq [
      TRef.unary arg1 φ.v0 id,
      TRef.unary φ.v0 φ.v1 (broadcastInDim S2048 ![] bcast_S_S2048),
      TRef.binary φ.v1 arg0 φ.v2 maxsi] := rfl

set_option maxRecDepth 131072 in
set_option maxHeartbeats 4000000 in
theorem main_part0_eq (c : Dev nD) : main_part0 (F := F) c = seq ops_part0 := rfl
set_option maxRecDepth 131072 in
set_option maxHeartbeats 4000000 in
theorem main_part1_eq (c : Dev nD) : main_part1 (F := F) c = seq ops_part1 := by
  simp only [main_part1, fn_where_eq, fn_argmax_eq, fn_where_0_eq, fn_where_1_eq, fn_softplus_eq, fn_clip_eq, line_one, line_cons, ← seq_append]
  rfl
set_option maxRecDepth 131072 in
theorem main_part2_eq (c : Dev nD) : main_part2 (F := F) c = seq ops_part2 := rfl
set_option maxRecDepth 131072 in
theorem main_part3_eq (c : Dev nD) : main_part3 (F := F) c = seq ops_part3 := rfl
set_option maxRecDepth 131072 in
theorem main_eq (c : Dev nD) : main (F := F) c = seq ops := by
  simp only [ops, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 131072 in
theorem ops_part0_0_sub : (ops_part0_0 : List (HloOp τ sig (Elt F))).Forall fun op => op.bufs ⊆ tcRefs τ sig :=
  ⟨nullary_bufs_sub .., unary_bufs_sub .., nullary_bufs_sub .., unary_bufs_sub .., nullary_bufs_sub .., unary_bufs_sub .., nullary_bufs_sub .., unary_bufs_sub .., ternary_bufs_sub .., nullary_bufs_sub .., unary_bufs_sub .., unary_bufs_sub .., unary_bufs_sub .., unary_bufs_sub .., unary_bufs_sub .., binary_bufs_sub .., nullary_bufs_sub .., unary_bufs_sub .., ternary_bufs_sub .., nullary_bufs_sub .., binary_bufs_sub .., nullary_bufs_sub .., nullary_bufs_sub .., nullary_bufs_sub .., quaternary_bufs_sub .., quaternary_bufs_sub .., ternary_bufs_sub .., unary_bufs_sub .., unary_bufs_sub .., unary_bufs_sub ..⟩
set_option maxRecDepth 131072 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 131072 in
theorem ops_part0_1_sub : (ops_part0_1 : List (HloOp τ sig (Elt F))).Forall fun op => op.bufs ⊆ tcRefs τ sig :=
  ⟨unary_bufs_sub .., binary_bufs_sub .., unary_bufs_sub .., binary_bufs_sub .., nullary_bufs_sub .., unary_bufs_sub .., unary_bufs_sub .., ternary_bufs_sub .., unary_bufs_sub .., unary_bufs_sub .., unary_bufs_sub .., unary_bufs_sub .., binary_bufs_sub .., nullary_bufs_sub .., unary_bufs_sub .., ternary_bufs_sub .., nullary_bufs_sub .., binary_bufs_sub .., nullary_bufs_sub .., nullary_bufs_sub .., nullary_bufs_sub .., quaternary_bufs_sub .., quaternary_bufs_sub .., ternary_bufs_sub .., unary_bufs_sub .., unary_bufs_sub .., unary_bufs_sub .., unary_bufs_sub .., binary_bufs_sub .., unary_bufs_sub ..⟩
set_option maxRecDepth 131072 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 131072 in
theorem ops_part0_2_sub : (ops_part0_2 : List (HloOp τ sig (Elt F))).Forall fun op => op.bufs ⊆ tcRefs τ sig :=
  ⟨binary_bufs_sub .., nullary_bufs_sub .., unary_bufs_sub .., unary_bufs_sub .., ternary_bufs_sub .., unary_bufs_sub .., unary_bufs_sub .., unary_bufs_sub .., unary_bufs_sub .., binary_bufs_sub .., nullary_bufs_sub .., unary_bufs_sub .., ternary_bufs_sub .., nullary_bufs_sub .., binary_bufs_sub ..⟩
set_option maxRecDepth 131072 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl⟩
set_option maxRecDepth 131072 in
theorem ops_part1_0_sub : (ops_part1_0 : List (HloOp τ sig (Elt F))).Forall fun op => op.bufs ⊆ tcRefs τ sig :=
  ⟨nullary_bufs_sub .., nullary_bufs_sub .., nullary_bufs_sub .., quaternary_bufs_sub .., quaternary_bufs_sub .., ternary_bufs_sub .., unary_bufs_sub .., unary_bufs_sub .., unary_bufs_sub .., unary_bufs_sub .., binary_bufs_sub .., unary_bufs_sub .., binary_bufs_sub .., nullary_bufs_sub .., unary_bufs_sub .., unary_bufs_sub .., ternary_bufs_sub .., unary_bufs_sub .., unary_bufs_sub .., unary_bufs_sub .., unary_bufs_sub .., binary_bufs_sub .., nullary_bufs_sub .., unary_bufs_sub .., ternary_bufs_sub .., nullary_bufs_sub .., binary_bufs_sub .., nullary_bufs_sub .., nullary_bufs_sub .., nullary_bufs_sub ..⟩
set_option maxRecDepth 131072 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 131072 in
theorem ops_part1_1_sub : (ops_part1_1 : List (HloOp τ sig (Elt F))).Forall fun op => op.bufs ⊆ tcRefs τ sig :=
  ⟨quaternary_bufs_sub .., quaternary_bufs_sub .., ternary_bufs_sub .., unary_bufs_sub .., unary_bufs_sub .., unary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub .., binary_bufs_sub ..⟩
set_option maxRecDepth 131072 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 131072 in
theorem ops_part1_2_sub : (ops_part1_2 : List (HloOp τ sig (Elt F))).Forall fun op => op.bufs ⊆ tcRefs τ sig :=
  ⟨nullary_bufs_sub .., unary_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub ..⟩
set_option maxRecDepth 131072 in
theorem ops_part1_2_fresh : (ops_part1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 131072 in
theorem ops_part2_sub : (ops_part2 : List (HloOp τ sig (Elt F))).Forall fun op => op.bufs ⊆ tcRefs τ sig :=
  ⟨unary_bufs_sub .., binary_bufs_sub .., unary_bufs_sub .., binary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., unary_bufs_sub .., binary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., unary_bufs_sub .., binary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., unary_bufs_sub .., binary_bufs_sub .., binary_bufs_sub .., ternary_bufs_sub .., nullary_bufs_sub .., binary_bufs_sub .., nullary_bufs_sub ..⟩
set_option maxRecDepth 131072 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 131072 in
theorem ops_part3_sub : (ops_part3 : List (HloOp τ sig (Elt F))).Forall fun op => op.bufs ⊆ tcRefs τ sig :=
  binary_bufs_sub ..
set_option maxRecDepth 131072 in
theorem ops_part3_fresh : (ops_part3 : List (HloOp τ sig (Elt F))).Forall fun op => op.fresh = ∅ :=
  rfl
theorem ops_sub : (ops : List (HloOp τ sig (Elt F))).Forall fun op => op.bufs ⊆ tcRefs τ sig :=
  List.forall_iff_forall_mem.mpr fun op h => by
    simp only [ops, ops_part0, ops_part1, List.mem_append, or_assoc] at h
    rcases h with h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part2_sub op h, List.forall_iff_forall_mem.mp ops_part3_sub op h]
theorem ops_fresh : ∀ op ∈ (ops : List (HloOp τ sig (Elt F))), op.fresh = ∅ := fun op h => by
    simp only [ops, ops_part0, ops_part1, List.mem_append, or_assoc] at h
    rcases h with h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part2_fresh op h, List.forall_iff_forall_mem.mp ops_part3_fresh op h]

end Cert.ReferenceIdeal.Value

end
-- ==== Proof.RefRun.lean ====
/- The reference's run: each result buffer ends at the operations' composed pure term of the arguments (`res_<buffer>` names a term
   that is used more than once), and the arguments end unchanged. -/
module

public import proofs.«01_k».proof.Proof.RefOps
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_v1`'s composed term of the arguments (named: it is used 4 times). -/
def res_main_v1 (V0 : Valuation τ sig (Elt F)) : (Proc.devRef .tc main_v1 : DevRef τ sig).ty.Contents (Elt F) :=
  broadcastInDim S1x2048 ![1] bcast_S2048_S1x2048_1 (iotaInDim S2048 32 0)

set_option maxRecDepth 8192 in
/-- `main_v6`'s composed term of the arguments (named: it is used 2 times). -/
def res_main_v6 (V0 : Valuation τ sig (Elt F)) : (Proc.devRef .tc main_v6 : DevRef τ sig).ty.Contents (Elt F) :=
  broadcastInDim S16384 ![] bcast_S_S16384 (constantI S_ 32 0#32)

set_option maxRecDepth 8192 in
/-- `main_v11`'s composed term of the arguments (named: it is used 2 times). -/
def res_main_v11 (V0 : Valuation τ sig (Elt F)) : (Proc.devRef .tc main_v11 : DevRef τ sig).ty.Contents (Elt F) :=
  cmpi .eq (broadcastInDim S16384x2048 ![0, 1] bcast_S1x2048_S16384x2048_0_1 (broadcastInDim S1x2048 ![1] bcast_S2048_S1x2048_1 (V0 (Proc.devRef .tc main_arg2)))) (broadcastInDim S16384x2048 ![0, 1] bcast_S16384x1_S16384x2048_0_1 (broadcastInDim S16384x1 ![0] bcast_S16384_S16384x1_0 (res_main_v6 V0)))

set_option maxRecDepth 8192 in
/-- `main_v12`'s composed term of the arguments (named: it is used 2 times). -/
def res_main_v12 (V0 : Valuation τ sig (Elt F)) : (Proc.devRef .tc main_v12 : DevRef τ sig).ty.Contents (Elt F) :=
  select (res_main_v11 V0) (V0 (Proc.devRef .tc main_arg0)) (broadcastInDim S16384x2048 ![] bcast_S_S16384x2048 (constant S_ .f32 0xFF800000#32))

set_option maxRecDepth 8192 in
/-- `main_v13`'s composed term of the arguments (named: it is used 2 times). -/
def res_main_v13 (V0 : Valuation τ sig (Elt F)) : (Proc.devRef .tc main_v13 : DevRef τ sig).ty.Contents (Elt F) :=
  Host.reduce IntOp.ori (res_main_v11 V0) (constantI S_ 1 0#1) reducesTo_S16384x2048_S16384_d1 h_S_

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  iotaInDim S16384x2048 32 1

set_option maxRecDepth 8192 in
/-- `main_call1_cst`'s composed term of the arguments (named: it is used 2 times). -/
def res_main_call1_cst (V0 : Valuation τ sig (Elt F)) : (Proc.devRef .tc main_call1_cst : DevRef τ sig).ty.Contents (Elt F) :=
  constant S_ .f32 0xFF800000#32

set_option maxRecDepth 8192 in
/-- `main_call1_c`'s composed term of the arguments (named: it is used 2 times). -/
def res_main_call1_c (V0 : Valuation τ sig (Elt F)) : (Proc.devRef .tc main_call1_c : DevRef τ sig).ty.Contents (Elt F) :=
  constantI S_ 32 0#32

set_option maxRecDepth 8192 in
/-- `main_v15`'s composed term of the arguments (named: it is used 3 times). -/
def res_main_v15 (V0 : Valuation τ sig (Elt F)) : (Proc.devRef .tc main_v15 : DevRef τ sig).ty.Contents (Elt F) :=
  select (res_main_v13 V0) ((fun j => (Host.argReduce reducer_argmax_f32_i32 (res_main_v12 V0) (res_main_call1_v0 V0) (res_main_call1_cst V0) (res_main_call1_c V0) reducesTo_S16384x2048_S16384_d1 h_S_ j).2)) (res_main_v6 V0)

set_option maxRecDepth 8192 in
/-- `main_v28`'s composed term of the arguments (named: it is used 2 times). -/
def res_main_v28 (V0 : Valuation τ sig (Elt F)) : (Proc.devRef .tc main_v28 : DevRef τ sig).ty.Contents (Elt F) :=
  cmpi .eq (broadcastInDim S16384x2048 ![0, 1] bcast_S1x2048_S16384x2048_0_1 (broadcastInDim S1x2048 ![1] bcast_S2048_S1x2048_1 (V0 (Proc.devRef .tc main_arg2)))) (broadcastInDim S16384x2048 ![0, 1] bcast_S16384x1_S16384x2048_0_1 (broadcastInDim S16384x1 ![0] bcast_S16384_S16384x1_0 (res_main_v15 V0)))

set_option maxRecDepth 8192 in
/-- `main_v29`'s composed term of the arguments (named: it is used 2 times). -/
def res_main_v29 (V0 : Valuation τ sig (Elt F)) : (Proc.devRef .tc main_v29 : DevRef τ sig).ty.Contents (Elt F) :=
  select (res_main_v28 V0) (V0 (Proc.devRef .tc main_arg0)) (broadcastInDim S16384x2048 ![] bcast_S_S16384x2048 (constant S_ .f32 0xFF800000#32))

set_option maxRecDepth 8192 in
/-- `main_v30`'s composed term of the arguments (named: it is used 2 times). -/
def res_main_v30 (V0 : Valuation τ sig (Elt F)) : (Proc.devRef .tc main_v30 : DevRef τ sig).ty.Contents (Elt F) :=
  Host.reduce IntOp.ori (res_main_v28 V0) (constantI S_ 1 0#1) reducesTo_S16384x2048_S16384_d1 h_S_

set_option maxRecDepth 8192 in
/-- `main_call5_v0`'s composed term of the arguments (named: it is used 2 times). -/
def res_main_call5_v0 (V0 : Valuation τ sig (Elt F)) : (Proc.devRef .tc main_call5_v0 : DevRef τ sig).ty.Contents (Elt F) :=
  iotaInDim S16384x2048 32 1

set_option maxRecDepth 8192 in
/-- `main_call5_cst`'s composed term of the arguments (named: it is used 2 times). -/
def res_main_call5_cst (V0 : Valuation τ sig (Elt F)) : (Proc.devRef .tc main_call5_cst : DevRef τ sig).ty.Contents (Elt F) :=
  constant S_ .f32 0xFF800000#32

set_option maxRecDepth 8192 in
/-- `main_call5_c`'s composed term of the arguments (named: it is used 2 times). -/
def res_main_call5_c (V0 : Valuation τ sig (Elt F)) : (Proc.devRef .tc main_call5_c : DevRef τ sig).ty.Contents (Elt F) :=
  constantI S_ 32 0#32

set_option maxRecDepth 8192 in
/-- `main_v32`'s composed term of the arguments (named: it is used 3 times). -/
def res_main_v32 (V0 : Valuation τ sig (Elt F)) : (Proc.devRef .tc main_v32 : DevRef τ sig).ty.Contents (Elt F) :=
  select (res_main_v30 V0) ((fun j => (Host.argReduce reducer_argmax_f32_i32 (res_main_v29 V0) (res_main_call5_v0 V0) (res_main_call5_cst V0) (res_main_call5_c V0) reducesTo_S16384x2048_S16384_d1 h_S_ j).2)) (res_main_v15 V0)

set_option maxRecDepth 8192 in
/-- `main_v45`'s composed term of the arguments (named: it is used 2 times). -/
def res_main_v45 (V0 : Valuation τ sig (Elt F)) : (Proc.devRef .tc main_v45 : DevRef τ sig).ty.Contents (Elt F) :=
  cmpi .eq (broadcastInDim S16384x2048 ![0, 1] bcast_S1x2048_S16384x2048_0_1 (broadcastInDim S1x2048 ![1] bcast_S2048_S1x2048_1 (V0 (Proc.devRef .tc main_arg2)))) (broadcastInDim S16384x2048 ![0, 1] bcast_S16384x1_S16384x2048_0_1 (broadcastInDim S16384x1 ![0] bcast_S16384_S16384x1_0 (res_main_v32 V0)))

set_option maxRecDepth 8192 in
/-- `main_v46`'s composed term of the arguments (named: it is used 2 times). -/
def res_main_v46 (V0 : Valuation τ sig (Elt F)) : (Proc.devRef .tc main_v46 : DevRef τ sig).ty.Contents (Elt F) :=
  select (res_main_v45 V0) (V0 (Proc.devRef .tc main_arg0)) (broadcastInDim S16384x2048 ![] bcast_S_S16384x2048 (constant S_ .f32 0xFF800000#32))

set_option maxRecDepth 8192 in
/-- `main_v47`'s composed term of the arguments (named: it is used 2 times). -/
def res_main_v47 (V0 : Valuation τ sig (Elt F)) : (Proc.devRef .tc main_v47 : DevRef τ sig).ty.Contents (Elt F) :=
  Host.reduce IntOp.ori (res_main_v45 V0) (constantI S_ 1 0#1) reducesTo_S16384x2048_S16384_d1 h_S_

set_option maxRecDepth 8192 in
/-- `main_call9_v0`'s composed term of the arguments (named: it is used 2 times). -/
def res_main_call9_v0 (V0 : Valuation τ sig (Elt F)) : (Proc.devRef .tc main_call9_v0 : DevRef τ sig).ty.Contents (Elt F) :=
  iotaInDim S16384x2048 32 1

set_option maxRecDepth 8192 in
/-- `main_call9_cst`'s composed term of the arguments (named: it is used 2 times). -/
def res_main_call9_cst (V0 : Valuation τ sig (Elt F)) : (Proc.devRef .tc main_call9_cst : DevRef τ sig).ty.Contents (Elt F) :=
  constant S_ .f32 0xFF800000#32

set_option maxRecDepth 8192 in
/-- `main_call9_c`'s composed term of the arguments (named: it is used 2 times). -/
def res_main_call9_c (V0 : Valuation τ sig (Elt F)) : (Proc.devRef .tc main_call9_c : DevRef τ sig).ty.Contents (Elt F) :=
  constantI S_ 32 0#32

set_option maxRecDepth 8192 in
/-- `main_v49`'s composed term of the arguments (named: it is used 3 times). -/
def res_main_v49 (V0 : Valuation τ sig (Elt F)) : (Proc.devRef .tc main_v49 : DevRef τ sig).ty.Contents (Elt F) :=
  select (res_main_v47 V0) ((fun j => (Host.argReduce reducer_argmax_f32_i32 (res_main_v46 V0) (res_main_call9_v0 V0) (res_main_call9_cst V0) (res_main_call9_c V0) reducesTo_S16384x2048_S16384_d1 h_S_ j).2)) (res_main_v32 V0)

set_option maxRecDepth 8192 in
/-- `main_v62`'s composed term of the arguments (named: it is used 2 times). -/
def res_main_v62 (V0 : Valuation τ sig (Elt F)) : (Proc.devRef .tc main_v62 : DevRef τ sig).ty.Contents (Elt F) :=
  cmpi .eq (broadcastInDim S16384x2048 ![0, 1] bcast_S1x2048_S16384x2048_0_1 (broadcastInDim S1x2048 ![1] bcast_S2048_S1x2048_1 (V0 (Proc.devRef .tc main_arg2)))) (broadcastInDim S16384x2048 ![0, 1] bcast_S16384x1_S16384x2048_0_1 (broadcastInDim S16384x1 ![0] bcast_S16384_S16384x1_0 (res_main_v49 V0)))

set_option maxRecDepth 8192 in
/-- `main_v63`'s composed term of the arguments (named: it is used 2 times). -/
def res_main_v63 (V0 : Valuation τ sig (Elt F)) : (Proc.devRef .tc main_v63 : DevRef τ sig).ty.Contents (Elt F) :=
  select (res_main_v62 V0) (V0 (Proc.devRef .tc main_arg0)) (broadcastInDim S16384x2048 ![] bcast_S_S16384x2048 (constant S_ .f32 0xFF800000#32))

set_option maxRecDepth 8192 in
/-- `main_v64`'s composed term of the arguments (named: it is used 2 times). -/
def res_main_v64 (V0 : Valuation τ sig (Elt F)) : (Proc.devRef .tc main_v64 : DevRef τ sig).ty.Contents (Elt F) :=
  Host.reduce IntOp.ori (res_main_v62 V0) (constantI S_ 1 0#1) reducesTo_S16384x2048_S16384_d1 h_S_

set_option maxRecDepth 8192 in
/-- `main_call13_v0`'s composed term of the arguments (named: it is used 2 times). -/
def res_main_call13_v0 (V0 : Valuation τ sig (Elt F)) : (Proc.devRef .tc main_call13_v0 : DevRef τ sig).ty.Contents (Elt F) :=
  iotaInDim S16384x2048 32 1

set_option maxRecDepth 8192 in
/-- `main_call13_cst`'s composed term of the arguments (named: it is used 2 times). -/
def res_main_call13_cst (V0 : Valuation τ sig (Elt F)) : (Proc.devRef .tc main_call13_cst : DevRef τ sig).ty.Contents (Elt F) :=
  constant S_ .f32 0xFF800000#32

set_option maxRecDepth 8192 in
/-- `main_call13_c`'s composed term of the arguments (named: it is used 2 times). -/
def res_main_call13_c (V0 : Valuation τ sig (Elt F)) : (Proc.devRef .tc main_call13_c : DevRef τ sig).ty.Contents (Elt F) :=
  constantI S_ 32 0#32

set_option maxRecDepth 8192 in
/-- `main_call16_cst`'s composed term of the arguments (named: it is used 3 times). -/
def res_main_call16_cst (V0 : Valuation τ sig (Elt F)) : (Proc.devRef .tc main_call16_cst : DevRef τ sig).ty.Contents (Elt F) :=
  constant S_ .f32 0x00000000#32

set_option maxRecDepth 8192 in
/-- `main_call16_v3`'s composed term of the arguments (named: it is used 3 times). -/
def res_main_call16_v3 (V0 : Valuation τ sig (Elt F)) : (Proc.devRef .tc main_call16_v3 : DevRef τ sig).ty.Contents (Elt F) :=
  subf (V0 (Proc.devRef .tc main_arg0)) (broadcastInDim S16384x2048 ![] bcast_S_S16384x2048 (res_main_call16_cst V0))

set_option maxRecDepth 8192 in
/-- `main_v77`'s composed term of the arguments (named: it is used 3 times). -/
def res_main_v77 (V0 : Valuation τ sig (Elt F)) : (Proc.devRef .tc main_v77 : DevRef τ sig).ty.Contents (Elt F) :=
  subf (select (cmpf .une (res_main_call16_v3 V0) (res_main_call16_v3 V0)) (addf (V0 (Proc.devRef .tc main_arg0)) (broadcastInDim S16384x2048 ![] bcast_S_S16384x2048 (res_main_call16_cst V0))) (addf (maximumf (V0 (Proc.devRef .tc main_arg0)) (broadcastInDim S16384x2048 ![] bcast_S_S16384x2048 (res_main_call16_cst V0))) (Host.log1p (Host.exp (Host.negf (Host.absf (res_main_call16_v3 V0))))))) (mulf (V0 (Proc.devRef .tc main_arg0)) (V0 (Proc.devRef .tc main_arg1)))

set_option maxRecDepth 8192 in
/-- `main_v80`'s composed term of the arguments (named: it is used 12 times). -/
def res_main_v80 (V0 : Valuation τ sig (Elt F)) : (Proc.devRef .tc main_v80 : DevRef τ sig).ty.Contents (Elt F) :=
  maxsi (broadcastInDim S2048 ![] bcast_S_S2048 (id (constantI S_ 32 0#32))) (V0 (Proc.devRef .tc main_arg2))

set_option maxRecDepth 8192 in
/-- `main_v88`'s composed term of the arguments (named: it is used 4 times). -/
def res_main_v88 (V0 : Valuation τ sig (Elt F)) : (Proc.devRef .tc main_v88 : DevRef τ sig).ty.Contents (Elt F) :=
  andi (andi (cmpf .oeq (select (andi (broadcastInDim S16384x2048 ![0, 1] bcast_S16384x1_S16384x2048_0_1 (broadcastInDim S16384x1 ![0] bcast_S16384_S16384x1_0 (res_main_v64 V0))) (cmpi .eq (broadcastInDim S16384x2048 ![0, 1] bcast_S1x2048_S16384x2048_0_1 (res_main_v1 V0)) (broadcastInDim S16384x2048 ![0, 1] bcast_S16384x1_S16384x2048_0_1 (broadcastInDim S16384x1 ![0] bcast_S16384_S16384x1_0 (select (res_main_v64 V0) ((fun j => (Host.argReduce reducer_argmax_f32_i32 (res_main_v63 V0) (res_main_call13_v0 V0) (res_main_call13_cst V0) (res_main_call13_c V0) reducesTo_S16384x2048_S16384_d1 h_S_ j).2)) (res_main_v49 V0)))))) (broadcastInDim S16384x2048 ![] bcast_S_S16384x2048 (id (constant S_ .f32 0x3F800000#32))) (select (andi (broadcastInDim S16384x2048 ![0, 1] bcast_S16384x1_S16384x2048_0_1 (broadcastInDim S16384x1 ![0] bcast_S16384_S16384x1_0 (res_main_v47 V0))) (cmpi .eq (broadcastInDim S16384x2048 ![0, 1] bcast_S1x2048_S16384x2048_0_1 (res_main_v1 V0)) (broadcastInDim S16384x2048 ![0, 1] bcast_S16384x1_S16384x2048_0_1 (broadcastInDim S16384x1 ![0] bcast_S16384_S16384x1_0 (res_main_v49 V0))))) (broadcastInDim S16384x2048 ![] bcast_S_S16384x2048 (id (constant S_ .f32 0x3F800000#32))) (select (andi (broadcastInDim S16384x2048 ![0, 1] bcast_S16384x1_S16384x2048_0_1 (broadcastInDim S16384x1 ![0] bcast_S16384_S16384x1_0 (res_main_v30 V0))) (cmpi .eq (broadcastInDim S16384x2048 ![0, 1] bcast_S1x2048_S16384x2048_0_1 (res_main_v1 V0)) (broadcastInDim S16384x2048 ![0, 1] bcast_S16384x1_S16384x2048_0_1 (broadcastInDim S16384x1 ![0] bcast_S16384_S16384x1_0 (res_main_v32 V0))))) (broadcastInDim S16384x2048 ![] bcast_S_S16384x2048 (id (constant S_ .f32 0x3F800000#32))) (select (andi (broadcastInDim S16384x2048 ![0, 1] bcast_S16384x1_S16384x2048_0_1 (broadcastInDim S16384x1 ![0] bcast_S16384_S16384x1_0 (res_main_v13 V0))) (cmpi .eq (broadcastInDim S16384x2048 ![0, 1] bcast_S1x2048_S16384x2048_0_1 (res_main_v1 V0)) (broadcastInDim S16384x2048 ![0, 1] bcast_S16384x1_S16384x2048_0_1 (broadcastInDim S16384x1 ![0] bcast_S16384_S16384x1_0 (res_main_v15 V0))))) (broadcastInDim S16384x2048 ![] bcast_S_S16384x2048 (id (constant S_ .f32 0x3F800000#32))) (Host.scatter scatter_S16384x2048_S1_S16384_0_1_1_0 (fun _ b => b) (broadcastInDim S16384x2048 ![] bcast_S_S16384x2048 (constant S_ .f32 0x00000000#32)) (broadcastInDim S1 ![] bcast_S_S1 (constantI S_ 32 0#32)) (broadcastInDim S16384 ![] bcast_S_S16384 (constant S_ .f32 0x3F800000#32)))))) : (⟨S16384x2048, .f32⟩ : BufTy).Contents (Elt F)) (broadcastInDim S16384x2048 ![] bcast_S_S16384x2048 (constant S_ .f32 0x3F800000#32))) (cmpf .oeq (V0 (Proc.devRef .tc main_arg1)) (broadcastInDim S16384x2048 ![] bcast_S_S16384x2048 (constant S_ .f32 0x00000000#32)))) (broadcastInDim S16384x2048 ![0, 1] bcast_S1x2048_S16384x2048_0_1 (broadcastInDim S1x2048 ![1] bcast_S2048_S1x2048_1 (cmpi .sge (V0 (Proc.devRef .tc main_arg2)) (broadcastInDim S2048 ![] bcast_S_S2048 (constantI S_ 32 0#32)))))

set_option maxRecDepth 8192 in
/-- `main_v102`'s composed term of the arguments (named: it is used 3 times). -/
def res_main_v102 (V0 : Valuation τ sig (Elt F)) : (Proc.devRef .tc main_v102 : DevRef τ sig).ty.Contents (Elt F) :=
  select (andi (res_main_v88 V0) (broadcastInDim S16384x2048 ![0, 1] bcast_S1x2048_S16384x2048_0_1 (cmpi .eq (broadcastInDim S1x2048 ![1] bcast_S2048_S1x2048_1 (V0 (Proc.devRef .tc main_arg3))) (broadcastInDim S1x2048 ![] bcast_S_S1x2048 (constantI S_ 32 1#32))))) (addf (res_main_v77 V0) (Host.gather gather_S16384x2048_S2048x1_S16384x2048_0_1_n_n_1_1_163841 (res_main_v77 V0) (broadcastInDim S2048x1 ![0] bcast_S2048_S2048x1_0 (select (cmpi .slt (res_main_v80 V0) (broadcastInDim S2048 ![] bcast_S_S2048 (constantI S_ 32 0#32))) (addi (res_main_v80 V0) (broadcastInDim S2048 ![] bcast_S_S2048 (constantI S_ 32 2048#32))) (res_main_v80 V0))))) (res_main_v77 V0)

set_option maxRecDepth 8192 in
/-- `main_v116`'s composed term of the arguments (named: it is used 3 times). -/
def res_main_v116 (V0 : Valuation τ sig (Elt F)) : (Proc.devRef .tc main_v116 : DevRef τ sig).ty.Contents (Elt F) :=
  select (andi (res_main_v88 V0) (broadcastInDim S16384x2048 ![0, 1] bcast_S1x2048_S16384x2048_0_1 (cmpi .eq (broadcastInDim S1x2048 ![1] bcast_S2048_S1x2048_1 (V0 (Proc.devRef .tc main_arg3))) (broadcastInDim S1x2048 ![] bcast_S_S1x2048 (constantI S_ 32 2#32))))) (addf (res_main_v102 V0) (Host.gather gather_S16384x2048_S2048x1_S16384x2048_0_1_n_n_1_1_163841 (res_main_v102 V0) (broadcastInDim S2048x1 ![0] bcast_S2048_S2048x1_0 (select (cmpi .slt (res_main_v80 V0) (broadcastInDim S2048 ![] bcast_S_S2048 (constantI S_ 32 0#32))) (addi (res_main_v80 V0) (broadcastInDim S2048 ![] bcast_S_S2048 (constantI S_ 32 2048#32))) (res_main_v80 V0))))) (res_main_v102 V0)

set_option maxRecDepth 8192 in
/-- `main_v130`'s composed term of the arguments (named: it is used 3 times). -/
def res_main_v130 (V0 : Valuation τ sig (Elt F)) : (Proc.devRef .tc main_v130 : DevRef τ sig).ty.Contents (Elt F) :=
  select (andi (res_main_v88 V0) (broadcastInDim S16384x2048 ![0, 1] bcast_S1x2048_S16384x2048_0_1 (cmpi .eq (broadcastInDim S1x2048 ![1] bcast_S2048_S1x2048_1 (V0 (Proc.devRef .tc main_arg3))) (broadcastInDim S1x2048 ![] bcast_S_S1x2048 (constantI S_ 32 3#32))))) (addf (res_main_v116 V0) (Host.gather gather_S16384x2048_S2048x1_S16384x2048_0_1_n_n_1_1_163841 (res_main_v116 V0) (broadcastInDim S2048x1 ![0] bcast_S2048_S2048x1_0 (select (cmpi .slt (res_main_v80 V0) (broadcastInDim S2048 ![] bcast_S_S2048 (constantI S_ 32 0#32))) (addi (res_main_v80 V0) (broadcastInDim S2048 ![] bcast_S_S2048 (constantI S_ 32 2048#32))) (res_main_v80 V0))))) (res_main_v116 V0)

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_cst, main_v2, main_c, main_v3, main_cst_0, main_v4, main_v5, main_c_1, main_v6, main_v7, main_v8, main_v9, main_v10, main_v11, main_cst_2, main_call0_v0, main_v12, main_c_3, main_v13, main_call1_v0, main_call1_cst, main_call1_c, main_call1_v1_0, main_v14, main_v15, main_v16, main_v17, main_v18]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
set_option maxRecDepth 8192 in
set_option maxHeartbeats 2000000 in
theorem val0_1_main_v1 (V0 : Valuation τ sig (Elt F)) : val0_1 V0 (no_index (Proc.devRef .tc main_v1)) = res_main_v1 V0 := by
  unfold val0_1
  simp only [ops_part0_0, TRef.nullary, TRef.quaternary, TRef.ternary, TRef.unary, TRef.toBuf, TRef.ofBuf, cast_eq]
  after_results_simp
  all_goals rfl
set_option maxRecDepth 8192 in
set_option maxHeartbeats 2000000 in
theorem val0_1_main_v5 (V0 : Valuation τ sig (Elt F)) : val0_1 V0 (no_index (Proc.devRef .tc main_v5)) = Host.scatter scatter_S16384x2048_S1_S16384_0_1_1_0 (fun _ b => b) (broadcastInDim S16384x2048 ![] bcast_S_S16384x2048 (constant S_ .f32 0x00000000#32)) (broadcastInDim S1 ![] bcast_S_S1 (constantI S_ 32 0#32)) (broadcastInDim S16384 ![] bcast_S_S16384 (constant S_ .f32 0x3F800000#32)) := by
  unfold val0_1
  simp only [ops_part0_0, TRef.nullary, TRef.quaternary, TRef.ternary, TRef.unary, TRef.toBuf, TRef.ofBuf, cast_eq]
  after_results_simp
  all_goals rfl
set_option maxRecDepth 8192 in
set_option maxHeartbeats 2000000 in
theorem val0_1_main_v15 (V0 : Valuation τ sig (Elt F)) : val0_1 V0 (no_index (Proc.devRef .tc main_v15)) = res_main_v15 V0 := by
  unfold val0_1
  simp only [ops_part0_0, TRef.nullary, TRef.quaternary, TRef.ternary, TRef.unary, TRef.toBuf, TRef.ofBuf, cast_eq]
  after_results_simp
  simp only [val0_main_arg0, val0_main_arg2] <;> rfl
set_option maxRecDepth 8192 in
set_option maxHeartbeats 2000000 in
theorem val0_1_main_v16 (V0 : Valuation τ sig (Elt F)) : val0_1 V0 (no_index (Proc.devRef .tc main_v16)) = broadcastInDim S16384x1 ![0] bcast_S16384_S16384x1_0 (res_main_v13 V0) := by
  unfold val0_1
  simp only [ops_part0_0, TRef.nullary, TRef.quaternary, TRef.ternary, TRef.unary, TRef.toBuf, TRef.ofBuf, cast_eq]
  after_results_simp
  simp only [val0_main_arg2] <;> rfl
set_option maxRecDepth 8192 in
set_option maxHeartbeats 2000000 in
theorem val0_1_main_v17 (V0 : Valuation τ sig (Elt F)) : val0_1 V0 (no_index (Proc.devRef .tc main_v17)) = broadcastInDim S16384x1 ![0] bcast_S16384_S16384x1_0 (res_main_v15 V0) := by
  unfold val0_1
  simp only [ops_part0_0, TRef.nullary, TRef.quaternary, TRef.ternary, TRef.unary, TRef.toBuf, TRef.ofBuf, cast_eq]
  after_results_simp
  simp only [val0_main_arg0, val0_main_arg2] <;> rfl
set_option maxRecDepth 8192 in
set_option maxHeartbeats 2000000 in
theorem val0_1_main_v18 (V0 : Valuation τ sig (Elt F)) : val0_1 V0 (no_index (Proc.devRef .tc main_v18)) = broadcastInDim S16384x2048 ![0, 1] bcast_S1x2048_S16384x2048_0_1 (res_main_v1 V0) := by
  unfold val0_1
  simp only [ops_part0_0, TRef.nullary, TRef.quaternary, TRef.ternary, TRef.unary, TRef.toBuf, TRef.ofBuf, cast_eq]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v19, main_v20, main_v21, main_v22, main_cst_4, main_call3_v0, main_call3_v1, main_v23, main_v24, main_v25, main_v26, main_v27, main_v28, main_cst_5, main_call4_v0, main_v29, main_c_6, main_v30, main_call5_v0, main_call5_cst, main_call5_c, main_call5_v1_0, main_v31, main_v32, main_v33, main_v34, main_v35, main_v36, main_v37, main_v38]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_v1 (V0 : Valuation τ sig (Elt F)) : val0_2 V0 (no_index (Proc.devRef .tc main_v1)) = res_main_v1 V0 :=
  (val0_2_keep V0 main_v1 (by decide)).trans (val0_1_main_v1 V0)
set_option maxRecDepth 8192 in
set_option maxHeartbeats 2000000 in
theorem val0_2_main_v23 (V0 : Valuation τ sig (Elt F)) : val0_2 V0 (no_index (Proc.devRef .tc main_v23)) = select (andi (broadcastInDim S16384x2048 ![0, 1] bcast_S16384x1_S16384x2048_0_1 (broadcastInDim S16384x1 ![0] bcast_S16384_S16384x1_0 (res_main_v13 V0))) (cmpi .eq (broadcastInDim S16384x2048 ![0, 1] bcast_S1x2048_S16384x2048_0_1 (res_main_v1 V0)) (broadcastInDim S16384x2048 ![0, 1] bcast_S16384x1_S16384x2048_0_1 (broadcastInDim S16384x1 ![0] bcast_S16384_S16384x1_0 (res_main_v15 V0))))) (broadcastInDim S16384x2048 ![] bcast_S_S16384x2048 (id (constant S_ .f32 0x3F800000#32))) (Host.scatter scatter_S16384x2048_S1_S16384_0_1_1_0 (fun _ b => b) (broadcastInDim S16384x2048 ![] bcast_S_S16384x2048 (constant S_ .f32 0x00000000#32)) (broadcastInDim S1 ![] bcast_S_S1 (constantI S_ 32 0#32)) (broadcastInDim S16384 ![] bcast_S_S16384 (constant S_ .f32 0x3F800000#32))) := by
  unfold val0_2
  simp only [ops_part0_1, TRef.nullary, TRef.quaternary, TRef.ternary, TRef.unary, TRef.toBuf, TRef.ofBuf, cast_eq]
  after_results_simp
  simp only [val0_1_main_v5, val0_1_main_v17, val0_1_main_v18, val0_1_main_v16] <;> rfl
set_option maxRecDepth 8192 in
set_option maxHeartbeats 2000000 in
theorem val0_2_main_v32 (V0 : Valuation τ sig (Elt F)) : val0_2 V0 (no_index (Proc.devRef .tc main_v32)) = res_main_v32 V0 := by
  unfold val0_2
  simp only [ops_part0_1, TRef.nullary, TRef.quaternary, TRef.ternary, TRef.unary, TRef.toBuf, TRef.ofBuf, cast_eq]
  after_results_simp
  simp only [val0_1_main_v15, val0_1_main_arg0, val0_1_main_arg2] <;> rfl
set_option maxRecDepth 8192 in
set_option maxHeartbeats 2000000 in
theorem val0_2_main_v37 (V0 : Valuation τ sig (Elt F)) : val0_2 V0 (no_index (Proc.devRef .tc main_v37)) = cmpi .eq (broadcastInDim S16384x2048 ![0, 1] bcast_S1x2048_S16384x2048_0_1 (res_main_v1 V0)) (broadcastInDim S16384x2048 ![0, 1] bcast_S16384x1_S16384x2048_0_1 (broadcastInDim S16384x1 ![0] bcast_S16384_S16384x1_0 (res_main_v32 V0))) := by
  unfold val0_2
  simp only [ops_part0_1, TRef.nullary, TRef.quaternary, TRef.ternary, TRef.unary, TRef.toBuf, TRef.ofBuf, cast_eq]
  after_results_simp
  simp only [val0_1_main_v15, val0_1_main_arg0, val0_1_main_arg2, val0_1_main_v1] <;> rfl
set_option maxRecDepth 8192 in
set_option maxHeartbeats 2000000 in
theorem val0_2_main_v38 (V0 : Valuation τ sig (Elt F)) : val0_2 V0 (no_index (Proc.devRef .tc main_v38)) = broadcastInDim S16384x2048 ![0, 1] bcast_S16384x1_S16384x2048_0_1 (broadcastInDim S16384x1 ![0] bcast_S16384_S16384x1_0 (res_main_v30 V0)) := by
  unfold val0_2
  simp only [ops_part0_1, TRef.nullary, TRef.quaternary, TRef.ternary, TRef.unary, TRef.toBuf, TRef.ofBuf, cast_eq]
  after_results_simp
  simp only [val0_1_main_v15, val0_1_main_arg2] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v39, main_cst_7, main_call7_v0, main_call7_v1, main_v40, main_v41, main_v42, main_v43, main_v44, main_v45, main_cst_8, main_call8_v0, main_v46, main_c_9, main_v47]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_arg3 (V0 : Valuation τ sig (Elt F)) : val1 V0 (no_index (Proc.devRef .tc main_arg3)) = V0 (Proc.devRef .tc main_arg3) :=
  (val1_keep V0 main_arg3 (by decide)).trans (val0_2_main_arg3 V0)
theorem val1_main_v1 (V0 : Valuation τ sig (Elt F)) : val1 V0 (no_index (Proc.devRef .tc main_v1)) = res_main_v1 V0 :=
  (val1_keep V0 main_v1 (by decide)).trans (val0_2_main_v1 V0)
theorem val1_main_v32 (V0 : Valuation τ sig (Elt F)) : val1 V0 (no_index (Proc.devRef .tc main_v32)) = res_main_v32 V0 :=
  (val1_keep V0 main_v32 (by decide)).trans (val0_2_main_v32 V0)
set_option maxRecDepth 8192 in
set_option maxHeartbeats 1500000 in
theorem val1_main_v40 (V0 : Valuation τ sig (Elt F)) : val1 V0 (no_index (Proc.devRef .tc main_v40)) = select (andi (broadcastInDim S16384x2048 ![0, 1] bcast_S16384x1_S16384x2048_0_1 (broadcastInDim S16384x1 ![0] bcast_S16384_S16384x1_0 (res_main_v30 V0))) (cmpi .eq (broadcastInDim S16384x2048 ![0, 1] bcast_S1x2048_S16384x2048_0_1 (res_main_v1 V0)) (broadcastInDim S16384x2048 ![0, 1] bcast_S16384x1_S16384x2048_0_1 (broadcastInDim S16384x1 ![0] bcast_S16384_S16384x1_0 (res_main_v32 V0))))) (broadcastInDim S16384x2048 ![] bcast_S_S16384x2048 (id (constant S_ .f32 0x3F800000#32))) (select (andi (broadcastInDim S16384x2048 ![0, 1] bcast_S16384x1_S16384x2048_0_1 (broadcastInDim S16384x1 ![0] bcast_S16384_S16384x1_0 (res_main_v13 V0))) (cmpi .eq (broadcastInDim S16384x2048 ![0, 1] bcast_S1x2048_S16384x2048_0_1 (res_main_v1 V0)) (broadcastInDim S16384x2048 ![0, 1] bcast_S16384x1_S16384x2048_0_1 (broadcastInDim S16384x1 ![0] bcast_S16384_S16384x1_0 (res_main_v15 V0))))) (broadcastInDim S16384x2048 ![] bcast_S_S16384x2048 (id (constant S_ .f32 0x3F800000#32))) (Host.scatter scatter_S16384x2048_S1_S16384_0_1_1_0 (fun _ b => b) (broadcastInDim S16384x2048 ![] bcast_S_S16384x2048 (constant S_ .f32 0x00000000#32)) (broadcastInDim S1 ![] bcast_S_S1 (constantI S_ 32 0#32)) (broadcastInDim S16384 ![] bcast_S_S16384 (constant S_ .f32 0x3F800000#32)))) := by
  unfold val1
  simp only [ops_part0_2, TRef.ternary, TRef.unary, TRef.toBuf, TRef.ofBuf, cast_eq]
  after_results_simp
  simp only [val0_2_main_v23, val0_2_main_v37, val0_2_main_v38] <;> rfl
set_option maxRecDepth 8192 in
set_option maxHeartbeats 1500000 in
theorem val1_main_v46 (V0 : Valuation τ sig (Elt F)) : val1 V0 (no_index (Proc.devRef .tc main_v46)) = res_main_v46 V0 := by
  unfold val1
  simp only [ops_part0_2, TRef.ternary, TRef.unary, TRef.toBuf, TRef.ofBuf, cast_eq]
  after_results_simp
  simp only [val0_2_main_arg0, val0_2_main_v32, val0_2_main_arg2] <;> rfl
set_option maxRecDepth 8192 in
set_option maxHeartbeats 1500000 in
theorem val1_main_v47 (V0 : Valuation τ sig (Elt F)) : val1 V0 (no_index (Proc.devRef .tc main_v47)) = res_main_v47 V0 := by
  unfold val1
  simp only [ops_part0_2, TRef.ternary, TRef.unary, TRef.toBuf, TRef.ofBuf, cast_eq]
  after_results_simp
  simp only [val0_2_main_v32, val0_2_main_arg2] <;> rfl

/-- The device's buffer contents after @main's first 105 operations. -/
def val1_1 (V0 : Valuation τ sig (Elt F)) : Valuation τ sig (Elt F) := after ops_part1_0 (val1 V0)
/-- The buffers that window `ops_part1_0`'s operations write. -/
abbrev ops_part1_0_W : List (Ref sig .tc) := [main_call9_v0, main_call9_cst, main_call9_c, main_call9_v1_0, main_v48, main_v49, main_v50, main_v51, main_v52, main_v53, main_v54, main_v55, main_v56, main_cst_10, main_call11_v0, main_call11_v1, main_v57, main_v58, main_v59, main_v60, main_v61, main_v62, main_cst_11, main_call12_v0, main_v63, main_c_12, main_v64, main_call13_v0, main_call13_cst, main_call13_c]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
theorem val1_1_main_v1 (V0 : Valuation τ sig (Elt F)) : val1_1 V0 (no_index (Proc.devRef .tc main_v1)) = res_main_v1 V0 :=
  (val1_1_keep V0 main_v1 (by decide)).trans (val1_main_v1 V0)
set_option maxRecDepth 8192 in
set_option maxHeartbeats 2000000 in
theorem val1_1_main_v49 (V0 : Valuation τ sig (Elt F)) : val1_1 V0 (no_index (Proc.devRef .tc main_v49)) = res_main_v49 V0 := by
  unfold val1_1
  simp only [ops_part1_0, TRef.nullary, TRef.quaternary, TRef.ternary, TRef.unary, TRef.toBuf, TRef.ofBuf, cast_eq]
  after_results_simp
  simp only [val1_main_v32, val1_main_v46, val1_main_v47] <;> rfl
set_option maxRecDepth 8192 in
set_option maxHeartbeats 2000000 in
theorem val1_1_main_v57 (V0 : Valuation τ sig (Elt F)) : val1_1 V0 (no_index (Proc.devRef .tc main_v57)) = select (andi (broadcastInDim S16384x2048 ![0, 1] bcast_S16384x1_S16384x2048_0_1 (broadcastInDim S16384x1 ![0] bcast_S16384_S16384x1_0 (res_main_v47 V0))) (cmpi .eq (broadcastInDim S16384x2048 ![0, 1] bcast_S1x2048_S16384x2048_0_1 (res_main_v1 V0)) (broadcastInDim S16384x2048 ![0, 1] bcast_S16384x1_S16384x2048_0_1 (broadcastInDim S16384x1 ![0] bcast_S16384_S16384x1_0 (res_main_v49 V0))))) (broadcastInDim S16384x2048 ![] bcast_S_S16384x2048 (id (constant S_ .f32 0x3F800000#32))) (select (andi (broadcastInDim S16384x2048 ![0, 1] bcast_S16384x1_S16384x2048_0_1 (broadcastInDim S16384x1 ![0] bcast_S16384_S16384x1_0 (res_main_v30 V0))) (cmpi .eq (broadcastInDim S16384x2048 ![0, 1] bcast_S1x2048_S16384x2048_0_1 (res_main_v1 V0)) (broadcastInDim S16384x2048 ![0, 1] bcast_S16384x1_S16384x2048_0_1 (broadcastInDim S16384x1 ![0] bcast_S16384_S16384x1_0 (res_main_v32 V0))))) (broadcastInDim S16384x2048 ![] bcast_S_S16384x2048 (id (constant S_ .f32 0x3F800000#32))) (select (andi (broadcastInDim S16384x2048 ![0, 1] bcast_S16384x1_S16384x2048_0_1 (broadcastInDim S16384x1 ![0] bcast_S16384_S16384x1_0 (res_main_v13 V0))) (cmpi .eq (broadcastInDim S16384x2048 ![0, 1] bcast_S1x2048_S16384x2048_0_1 (res_main_v1 V0)) (broadcastInDim S16384x2048 ![0, 1] bcast_S16384x1_S16384x2048_0_1 (broadcastInDim S16384x1 ![0] bcast_S16384_S16384x1_0 (res_main_v15 V0))))) (broadcastInDim S16384x2048 ![] bcast_S_S16384x2048 (id (constant S_ .f32 0x3F800000#32))) (Host.scatter scatter_S16384x2048_S1_S16384_0_1_1_0 (fun _ b => b) (broadcastInDim S16384x2048 ![] bcast_S_S16384x2048 (constant S_ .f32 0x00000000#32)) (broadcastInDim S1 ![] bcast_S_S1 (constantI S_ 32 0#32)) (broadcastInDim S16384 ![] bcast_S_S16384 (constant S_ .f32 0x3F800000#32))))) := by
  unfold val1_1
  simp only [ops_part1_0, TRef.nullary, TRef.quaternary, TRef.ternary, TRef.unary, TRef.toBuf, TRef.ofBuf, cast_eq]
  after_results_simp
  simp only [val1_main_v40, val1_main_v32, val1_main_v46, val1_main_v47, val1_main_v1] <;> rfl
set_option maxRecDepth 8192 in
set_option maxHeartbeats 2000000 in
theorem val1_1_main_v63 (V0 : Valuation τ sig (Elt F)) : val1_1 V0 (no_index (Proc.devRef .tc main_v63)) = res_main_v63 V0 := by
  unfold val1_1
  simp only [ops_part1_0, TRef.nullary, TRef.quaternary, TRef.ternary, TRef.unary, TRef.toBuf, TRef.ofBuf, cast_eq]
  after_results_simp
  simp only [val1_main_arg0, val1_main_v32, val1_main_v46, val1_main_v47, val1_main_arg2] <;> rfl
set_option maxRecDepth 8192 in
set_option maxHeartbeats 2000000 in
theorem val1_1_main_v64 (V0 : Valuation τ sig (Elt F)) : val1_1 V0 (no_index (Proc.devRef .tc main_v64)) = res_main_v64 V0 := by
  unfold val1_1
  simp only [ops_part1_0, TRef.nullary, TRef.quaternary, TRef.ternary, TRef.unary, TRef.toBuf, TRef.ofBuf, cast_eq]
  after_results_simp
  simp only [val1_main_v32, val1_main_v46, val1_main_v47, val1_main_arg2] <;> rfl
set_option maxRecDepth 8192 in
set_option maxHeartbeats 2000000 in
theorem val1_1_main_call13_v0 (V0 : Valuation τ sig (Elt F)) : val1_1 V0 (no_index (Proc.devRef .tc main_call13_v0)) = res_main_call13_v0 V0 := by
  unfold val1_1
  simp only [ops_part1_0, TRef.nullary, TRef.quaternary, TRef.ternary, TRef.unary, TRef.toBuf, TRef.ofBuf, cast_eq]
  after_results_simp
  all_goals rfl
set_option maxRecDepth 8192 in
set_option maxHeartbeats 2000000 in
theorem val1_1_main_call13_cst (V0 : Valuation τ sig (Elt F)) : val1_1 V0 (no_index (Proc.devRef .tc main_call13_cst)) = res_main_call13_cst V0 := by
  unfold val1_1
  simp only [ops_part1_0, TRef.nullary, TRef.quaternary, TRef.ternary, TRef.unary, TRef.toBuf, TRef.ofBuf, cast_eq]
  after_results_simp
  all_goals rfl
set_option maxRecDepth 8192 in
set_option maxHeartbeats 2000000 in
theorem val1_1_main_call13_c (V0 : Valuation τ sig (Elt F)) : val1_1 V0 (no_index (Proc.devRef .tc main_call13_c)) = res_main_call13_c V0 := by
  unfold val1_1
  simp only [ops_part1_0, TRef.nullary, TRef.quaternary, TRef.ternary, TRef.unary, TRef.toBuf, TRef.ofBuf, cast_eq]
  after_results_simp
  all_goals rfl

/-- The device's buffer contents after @main's first 135 operations. -/
def val1_2 (V0 : Valuation τ sig (Elt F)) : Valuation τ sig (Elt F) := after ops_part1_1 (val1_1 V0)
/-- The buffers that window `ops_part1_1`'s operations write. -/
abbrev ops_part1_1_W : List (Ref sig .tc) := [main_call13_v1_0, main_v65, main_v66, main_v67, main_v68, main_v69, main_v70, main_v71, main_v72, main_v73, main_cst_13, main_call15_v0, main_call15_v1, main_v74, main_call16_cst, main_call16_v0, main_call16_v1, main_call16_v2, main_call16_v3, main_call16_v4, main_call16_v5, main_call16_v6, main_call16_v7, main_call16_v8, main_call16_v9, main_call16_v10, main_call16_v11, main_v75, main_v76, main_v77]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
set_option maxRecDepth 8192 in
set_option maxHeartbeats 2000000 in
theorem val1_2_main_v74 (V0 : Valuation τ sig (Elt F)) : val1_2 V0 (no_index (Proc.devRef .tc main_v74)) = select (andi (broadcastInDim S16384x2048 ![0, 1] bcast_S16384x1_S16384x2048_0_1 (broadcastInDim S16384x1 ![0] bcast_S16384_S16384x1_0 (res_main_v64 V0))) (cmpi .eq (broadcastInDim S16384x2048 ![0, 1] bcast_S1x2048_S16384x2048_0_1 (res_main_v1 V0)) (broadcastInDim S16384x2048 ![0, 1] bcast_S16384x1_S16384x2048_0_1 (broadcastInDim S16384x1 ![0] bcast_S16384_S16384x1_0 (select (res_main_v64 V0) ((fun j => (Host.argReduce reducer_argmax_f32_i32 (res_main_v63 V0) (res_main_call13_v0 V0) (res_main_call13_cst V0) (res_main_call13_c V0) reducesTo_S16384x2048_S16384_d1 h_S_ j).2)) (res_main_v49 V0)))))) (broadcastInDim S16384x2048 ![] bcast_S_S16384x2048 (id (constant S_ .f32 0x3F800000#32))) (select (andi (broadcastInDim S16384x2048 ![0, 1] bcast_S16384x1_S16384x2048_0_1 (broadcastInDim S16384x1 ![0] bcast_S16384_S16384x1_0 (res_main_v47 V0))) (cmpi .eq (broadcastInDim S16384x2048 ![0, 1] bcast_S1x2048_S16384x2048_0_1 (res_main_v1 V0)) (broadcastInDim S16384x2048 ![0, 1] bcast_S16384x1_S16384x2048_0_1 (broadcastInDim S16384x1 ![0] bcast_S16384_S16384x1_0 (res_main_v49 V0))))) (broadcastInDim S16384x2048 ![] bcast_S_S16384x2048 (id (constant S_ .f32 0x3F800000#32))) (select (andi (broadcastInDim S16384x2048 ![0, 1] bcast_S16384x1_S16384x2048_0_1 (broadcastInDim S16384x1 ![0] bcast_S16384_S16384x1_0 (res_main_v30 V0))) (cmpi .eq (broadcastInDim S16384x2048 ![0, 1] bcast_S1x2048_S16384x2048_0_1 (res_main_v1 V0)) (broadcastInDim S16384x2048 ![0, 1] bcast_S16384x1_S16384x2048_0_1 (broadcastInDim S16384x1 ![0] bcast_S16384_S16384x1_0 (res_main_v32 V0))))) (broadcastInDim S16384x2048 ![] bcast_S_S16384x2048 (id (constant S_ .f32 0x3F800000#32))) (select (andi (broadcastInDim S16384x2048 ![0, 1] bcast_S16384x1_S16384x2048_0_1 (broadcastInDim S16384x1 ![0] bcast_S16384_S16384x1_0 (res_main_v13 V0))) (cmpi .eq (broadcastInDim S16384x2048 ![0, 1] bcast_S1x2048_S16384x2048_0_1 (res_main_v1 V0)) (broadcastInDim S16384x2048 ![0, 1] bcast_S16384x1_S16384x2048_0_1 (broadcastInDim S16384x1 ![0] bcast_S16384_S16384x1_0 (res_main_v15 V0))))) (broadcastInDim S16384x2048 ![] bcast_S_S16384x2048 (id (constant S_ .f32 0x3F800000#32))) (Host.scatter scatter_S16384x2048_S1_S16384_0_1_1_0 (fun _ b => b) (broadcastInDim S16384x2048 ![] bcast_S_S16384x2048 (constant S_ .f32 0x00000000#32)) (broadcastInDim S1 ![] bcast_S_S1 (constantI S_ 32 0#32)) (broadcastInDim S16384 ![] bcast_S_S16384 (constant S_ .f32 0x3F800000#32)))))) := by
  unfold val1_2
  simp only [ops_part1_1, TRef.binary, TRef.nullary, TRef.quaternary, TRef.ternary, TRef.unary, TRef.toBuf, TRef.ofBuf, cast_eq]
  after_results_simp
  simp only [val1_1_main_v57, val1_1_main_v49, val1_1_main_call13_c, val1_1_main_call13_cst, val1_1_main_call13_v0, val1_1_main_v63, val1_1_main_v64, val1_1_main_v1] <;> rfl
set_option maxRecDepth 8192 in
set_option maxHeartbeats 2000000 in
theorem val1_2_main_v77 (V0 : Valuation τ sig (Elt F)) : val1_2 V0 (no_index (Proc.devRef .tc main_v77)) = res_main_v77 V0 := by
  unfold val1_2
  simp only [ops_part1_1, TRef.binary, TRef.nullary, TRef.quaternary, TRef.ternary, TRef.unary, TRef.toBuf, TRef.ofBuf, cast_eq]
  after_results_simp
  simp only [val1_1_main_arg1, val1_1_main_arg0] <;> rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_c_14, main_v78, main_v79, main_c_15, main_call17_v0, main_call17_v1, main_v80, main_cst_16, main_v81, main_v82, main_cst_17, main_v83, main_v84, main_v85, main_v86, main_v87, main_v88, main_c_18, main_v89, main_v90, main_c_19, main_v91, main_v92, main_v93, main_v94, main_v95, main_v96, main_c_20]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_arg3 (V0 : Valuation τ sig (Elt F)) : val2 V0 (no_index (Proc.devRef .tc main_arg3)) = V0 (Proc.devRef .tc main_arg3) :=
  (val2_keep V0 main_arg3 (by decide)).trans (val1_2_main_arg3 V0)
theorem val2_main_v77 (V0 : Valuation τ sig (Elt F)) : val2 V0 (no_index (Proc.devRef .tc main_v77)) = res_main_v77 V0 :=
  (val2_keep V0 main_v77 (by decide)).trans (val1_2_main_v77 V0)
set_option maxRecDepth 8192 in
set_option maxHeartbeats 2000000 in
theorem val2_main_v80 (V0 : Valuation τ sig (Elt F)) : val2 V0 (no_index (Proc.devRef .tc main_v80)) = res_main_v80 V0 := by
  unfold val2
  simp only [ops_part1_2, TRef.binary, TRef.unary, TRef.toBuf, TRef.ofBuf, cast_eq]
  after_results_simp
  simp only [val1_2_main_arg2] <;> rfl
set_option maxRecDepth 8192 in
set_option maxHeartbeats 2000000 in
theorem val2_main_v88 (V0 : Valuation τ sig (Elt F)) : val2 V0 (no_index (Proc.devRef .tc main_v88)) = res_main_v88 V0 := by
  unfold val2
  simp only [ops_part1_2, TRef.binary, TRef.unary, TRef.toBuf, TRef.ofBuf, cast_eq]
  after_results_simp
  simp only [val1_2_main_arg2, val1_2_main_arg1, val1_2_main_v74] <;> rfl
set_option maxRecDepth 8192 in
set_option maxHeartbeats 2000000 in
theorem val2_main_v95 (V0 : Valuation τ sig (Elt F)) : val2 V0 (no_index (Proc.devRef .tc main_v95)) = Host.gather gather_S16384x2048_S2048x1_S16384x2048_0_1_n_n_1_1_163841 (res_main_v77 V0) (broadcastInDim S2048x1 ![0] bcast_S2048_S2048x1_0 (select (cmpi .slt (res_main_v80 V0) (broadcastInDim S2048 ![] bcast_S_S2048 (constantI S_ 32 0#32))) (addi (res_main_v80 V0) (broadcastInDim S2048 ![] bcast_S_S2048 (constantI S_ 32 2048#32))) (res_main_v80 V0))) := by
  unfold val2
  simp only [ops_part1_2, TRef.binary, TRef.unary, TRef.toBuf, TRef.ofBuf, cast_eq]
  after_results_simp
  simp only [val1_2_main_arg2, val1_2_main_v77] <;> rfl
set_option maxRecDepth 8192 in
set_option maxHeartbeats 2000000 in
theorem val2_main_v96 (V0 : Valuation τ sig (Elt F)) : val2 V0 (no_index (Proc.devRef .tc main_v96)) = broadcastInDim S1x2048 ![1] bcast_S2048_S1x2048_1 (V0 (Proc.devRef .tc main_arg3)) := by
  unfold val2
  simp only [ops_part1_2, TRef.binary, TRef.unary, TRef.toBuf, TRef.ofBuf, cast_eq]
  after_results_simp
  simp only [val1_2_main_arg3] <;> rfl
set_option maxRecDepth 8192 in
set_option maxHeartbeats 2000000 in
theorem val2_main_c_20 (V0 : Valuation τ sig (Elt F)) : val2 V0 (no_index (Proc.devRef .tc main_c_20)) = constantI S_ 32 1#32 := by
  unfold val2
  simp only [ops_part1_2, TRef.binary, TRef.unary, TRef.toBuf, TRef.ofBuf, cast_eq]
  after_results_simp
  all_goals rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_v97, main_v98, main_v99, main_v100, main_v101, main_v102, main_c_21, main_v103, main_v104, main_c_22, main_v105, main_v106, main_v107, main_v108, main_v109, main_v110, main_c_23, main_v111, main_v112, main_v113, main_v114, main_v115, main_v116, main_c_24, main_v117, main_v118, main_c_25, main_v119, main_v120, main_v121, main_v122, main_v123, main_v124, main_c_26, main_v125, main_v126, main_v127, main_v128, main_v129, main_v130, main_c_27, main_v131, main_v132, main_c_28, main_v133, main_v134, main_v135, main_v136, main_v137, main_v138, main_c_29, main_v139, main_v140, main_v141, main_v142, main_v143, main_v144, main_cst_30, main_v145, main_cst_31]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
set_option maxRecDepth 8192 in
set_option maxHeartbeats 2000000 in
theorem val3_main_v145 (V0 : Valuation τ sig (Elt F)) : val3 V0 (no_index (Proc.devRef .tc main_v145)) = Host.reduceAdd (select (andi (res_main_v88 V0) (broadcastInDim S16384x2048 ![0, 1] bcast_S1x2048_S16384x2048_0_1 (cmpi .eq (broadcastInDim S1x2048 ![1] bcast_S2048_S1x2048_1 (V0 (Proc.devRef .tc main_arg3))) (broadcastInDim S1x2048 ![] bcast_S_S1x2048 (constantI S_ 32 4#32))))) (addf (res_main_v130 V0) (Host.gather gather_S16384x2048_S2048x1_S16384x2048_0_1_n_n_1_1_163841 (res_main_v130 V0) (broadcastInDim S2048x1 ![0] bcast_S2048_S2048x1_0 (select (cmpi .slt (res_main_v80 V0) (broadcastInDim S2048 ![] bcast_S_S2048 (constantI S_ 32 0#32))) (addi (res_main_v80 V0) (broadcastInDim S2048 ![] bcast_S_S2048 (constantI S_ 32 2048#32))) (res_main_v80 V0))))) (res_main_v130 V0)) (constant S_ .f32 0x00000000#32) reducesTo_S16384x2048_S_d0_1 h_S_ := by
  unfold val3
  simp only [ops_part2, TRef.ternary, TRef.toBuf, TRef.ofBuf, cast_eq]
  after_results_simp
  simp only [val2_main_v77, val2_main_v95, val2_main_c_20, val2_main_v96, val2_main_v88, val2_main_v80, val2_main_arg3] <;> rfl
set_option maxRecDepth 8192 in
set_option maxHeartbeats 2000000 in
theorem val3_main_cst_31 (V0 : Valuation τ sig (Elt F)) : val3 V0 (no_index (Proc.devRef .tc main_cst_31)) = constant S_ .f32 0x4C000000#32 := by
  unfold val3
  simp only [ops_part2, TRef.ternary, TRef.toBuf, TRef.ofBuf, cast_eq]
  after_results_simp
  all_goals rfl

/-- The device's buffer contents after @main's first 4 windows. -/
def val4 (V0 : Valuation τ sig (Elt F)) : Valuation τ sig (Elt F) := after ops_part3 (val3 V0)
/-- The buffers that window `main_part3`'s operations write. -/
abbrev ops_part3_W : List (Ref sig .tc) := [main_v146]
set_option maxRecDepth 8192 in
theorem ops_part3_writes : (ops_part3 : List (HloOp τ sig (Elt F))).Forall fun op => op.writes ⊆ (ops_part3_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `main_part3` does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
set_option maxRecDepth 8192 in
theorem val4_main_v146 (V0 : Valuation τ sig (Elt F)) : val4 V0 (no_index (Proc.devRef .tc main_v146)) = Host.divf (Host.reduceAdd (select (andi (res_main_v88 V0) (broadcastInDim S16384x2048 ![0, 1] bcast_S1x2048_S16384x2048_0_1 (cmpi .eq (broadcastInDim S1x2048 ![1] bcast_S2048_S1x2048_1 (V0 (Proc.devRef .tc main_arg3))) (broadcastInDim S1x2048 ![] bcast_S_S1x2048 (constantI S_ 32 4#32))))) (addf (res_main_v130 V0) (Host.gather gather_S16384x2048_S2048x1_S16384x2048_0_1_n_n_1_1_163841 (res_main_v130 V0) (broadcastInDim S2048x1 ![0] bcast_S2048_S2048x1_0 (select (cmpi .slt (res_main_v80 V0) (broadcastInDim S2048 ![] bcast_S_S2048 (constantI S_ 32 0#32))) (addi (res_main_v80 V0) (broadcastInDim S2048 ![] bcast_S_S2048 (constantI S_ 32 2048#32))) (res_main_v80 V0))))) (res_main_v130 V0)) (constant S_ .f32 0x00000000#32) reducesTo_S16384x2048_S_d0_1 h_S_) (constant S_ .f32 0x4C000000#32) := by
  unfold val4
  simp only [ops_part3]
  after_results_simp
  simp only [val3_main_cst_31, val3_main_v145] <;> rfl

theorem after_ops (V0 : Valuation τ sig (Elt F)) : after ops V0 = val4 V0 := by
  simp only [ops, ops_part0, ops_part1, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v146) = Host.divf (Host.reduceAdd (select (andi (res_main_v88 (launchContents m c)) (broadcastInDim S16384x2048 ![0, 1] bcast_S1x2048_S16384x2048_0_1 (cmpi .eq (broadcastInDim S1x2048 ![1] bcast_S2048_S1x2048_1 ((launchContents m c) (Proc.devRef .tc main_arg3))) (broadcastInDim S1x2048 ![] bcast_S_S1x2048 (constantI S_ 32 4#32))))) (addf (res_main_v130 (launchContents m c)) (Host.gather gather_S16384x2048_S2048x1_S16384x2048_0_1_n_n_1_1_163841 (res_main_v130 (launchContents m c)) (broadcastInDim S2048x1 ![0] bcast_S2048_S2048x1_0 (select (cmpi .slt (res_main_v80 (launchContents m c)) (broadcastInDim S2048 ![] bcast_S_S2048 (constantI S_ 32 0#32))) (addi (res_main_v80 (launchContents m c)) (broadcastInDim S2048 ![] bcast_S_S2048 (constantI S_ 32 2048#32))) (res_main_v80 (launchContents m c)))))) (res_main_v130 (launchContents m c))) (constant S_ .f32 0x00000000#32) reducesTo_S16384x2048_S_d0_1 h_S_) (constant S_ .f32 0x4C000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v146).trans ((congrFun (after_ops (launchContents m c)) (Proc.devRef .tc main_v146)).trans (val4_main_v146 (launchContents m c))),
      (h c main_arg0).trans ((congrFun (after_ops (launchContents m c)) (Proc.devRef .tc main_arg0)).trans (val4_main_arg0 (launchContents m c))),
      (h c main_arg1).trans ((congrFun (after_ops (launchContents m c)) (Proc.devRef .tc main_arg1)).trans (val4_main_arg1 (launchContents m c))),
      (h c main_arg2).trans ((congrFun (after_ops (launchContents m c)) (Proc.devRef .tc main_arg2)).trans (val4_main_arg2 (launchContents m c))),
      (h c main_arg3).trans ((congrFun (after_ops (launchContents m c)) (Proc.devRef .tc main_arg3)).trans (val4_main_arg3 (launchContents m c)))⟩)
    (run_seq scopedRefs_eq scopedSems_eq defs main (fun _ => ops) main_eq (fun _ => ops_sub) m ρ fun _ => ops_fresh)

end Cert.ReferenceIdeal.Value

end
-- ==== Proof.RefValue.lean ====
/- The reference's value: its losses are `nodeLoss`, its four levels are the cascade's steps, so each row sums to `rowTotal` of
   the row's path, and its result is the mean of all rows' totals. -/
module

public import proofs.«01_k».proof.Proof.RefRow
public import proofs.«01_k».proof.Proof.RefRun

@[expose] public section

noncomputable section

namespace Cert.ReferenceIdeal.Row

open Cert.ReferenceIdeal Cert.ReferenceIdeal.Gen Cert.ReferenceIdeal.Value Cert.Tree Idealize.ShloMosaic Idealize.ShloMosaic.ValueIdx Idealize.SL.Sem

/-! ## The losses -/

/-- A float constant, everywhere. -/
def splat (b : BitVec 32) : FVec Ideal S16384x2048 .f32 :=
  broadcastInDim S16384x2048 ![] bcast_S_S16384x2048 (constant (F := Ideal) S_ .f32 b)

/-- Every node's loss, softplus of the logit less the logit times the target. -/
def losses (x t : FVec Ideal S16384x2048 .f32) : FVec Ideal S16384x2048 .f32 :=
  subf (select (cmpf .une (subf x (splat 0x00000000#32)) (subf x (splat 0x00000000#32))) (addf x (splat 0x00000000#32))
    (addf (maximumf x (splat 0x00000000#32)) (Host.log1p (Host.exp (Host.negf (Host.absf (subf x (splat 0x00000000#32)))))))) (mulf x t)

theorem losses_apply (x t : FVec Ideal S16384x2048 .f32) (r : Fin 16384) (n : Fin 2048) :
    losses x t (ix2 r n) = nodeLoss (row x r n) (row t r n) := by
  rw [row_fin, row_fin]
  unfold losses
  have hz : splat 0x00000000#32 = fun _ => (0 : EReal) := funext fun i => ofBits_zero
  rw [hz]
  show Scalar.select (BitVec.ofBool (decide (x (ix2 r n) - 0 ≠ x (ix2 r n) - 0))) (x (ix2 r n) + 0)
    (max (x (ix2 r n)) 0 + Ideal.log1p (Ideal.exp (-(max (x (ix2 r n) - 0) (-(x (ix2 r n) - 0)))))) - x (ix2 r n) * t (ix2 r n) = _
  rw [sp_max, decide_eq_false (fun h => h rfl)]
  rfl

/-! ## One level of the cascade -/

/-- The parents with the root's taken as the root. -/
def parents (par : IVec S2048 32) : IVec S2048 32 := maxsi (broadcastInDim S2048 ![] bcast_S_S2048 (id (constantI S_ 32 0#32))) par

/-- The parents as the gather's index words. -/
def words (par : IVec S2048 32) : IVec S2048 32 :=
  select (cmpi .slt (parents par) (broadcastInDim S2048 ![] bcast_S_S2048 (constantI S_ 32 0#32)))
    (addi (parents par) (broadcastInDim S2048 ![] bcast_S_S2048 (constantI S_ 32 2048#32))) (parents par)

/-- The nodes of level `d` that take add their parent's loss. -/
def takeLevel (take : IVec S16384x2048 1) (par lev : IVec S2048 32) (d : BitVec 32) (L : FVec Ideal S16384x2048 .f32) :
    FVec Ideal S16384x2048 .f32 :=
  select (andi take (broadcastInDim S16384x2048 ![0, 1] bcast_S1x2048_S16384x2048_0_1
      (cmpi .eq (broadcastInDim S1x2048 ![1] bcast_S2048_S1x2048_1 lev) (broadcastInDim S1x2048 ![] bcast_S_S1x2048 (constantI S_ 32 d)))))
    (addf L (Host.gather gather_S16384x2048_S2048x1_S16384x2048_0_1_n_n_1_1_163841 L
      (broadcastInDim S2048x1 ![0] bcast_S2048_S2048x1_0 (words par)))) L

section Level
variable {par lev : IVec S2048 32} (ht : IsTree par lev)

/-- A small word is its own maximum with zero, and is not below zero. -/
theorem word_of {w : BitVec 32} (k : ℕ) (hk : k < 2048) (hw : w = BitVec.ofNat 32 k) :
    Scalar.select (IntOp.cmpi .slt (IntOp.maxsi 0#32 w) 0#32) (IntOp.addi (IntOp.maxsi 0#32 w) 2048#32) (IntOp.maxsi 0#32 w)
      = BitVec.ofNat 32 k := by
  have h0 : (0#32 : BitVec 32).toInt = 0 := rfl
  have hm : IntOp.maxsi 0#32 w = BitVec.ofNat 32 k := by
    have hs : IntOp.maxsi 0#32 w = if decide (w.toInt < (0#32 : BitVec 32).toInt) = true then 0#32 else w := rfl
    rw [hs, h0, hw, toInt_small (by omega), if_neg (by simp)]
  rw [hm]
  have hc : IntOp.cmpi .slt (BitVec.ofNat 32 k) 0#32 = BitVec.ofBool (decide ((BitVec.ofNat 32 k).toInt < (0#32 : BitVec 32).toInt)) := rfl
  rw [hc, h0, toInt_small (by omega), decide_eq_false (by omega)]
  rfl

include ht in
theorem words_apply (n : Fin 2048) : (words par (ix1 n)).toInt = ((((n : ℕ) - 1) / 8 : ℕ) : ℤ) := by
  have hn := n.2
  have e : words par (ix1 n) = Scalar.select (IntOp.cmpi .slt (IntOp.maxsi 0#32 (par (ix1 n))) 0#32)
      (IntOp.addi (IntOp.maxsi 0#32 (par (ix1 n))) 2048#32) (IntOp.maxsi 0#32 (par (ix1 n))) := rfl
  rw [e, ht.parent]
  split_ifs with h
  · rw [h]; decide
  · rw [word_of _ (by omega) rfl, toInt_small (by omega)]

include ht in
theorem takeLevel_apply (take : IVec S16384x2048 1) {d : ℕ} (hd : d ≤ 4) (L : FVec Ideal S16384x2048 .f32) (r : Fin 16384) (n : Fin 2048) :
    takeLevel take par lev (BitVec.ofNat 32 d) L (ix2 r n)
      = if take (ix2 r n) = 1#1 ∧ depth n = d then row L r n + row L r (((n : ℕ) - 1) / 8) else row L r n := by
  have hn := n.2
  have hk : ((n : ℕ) - 1) / 8 < 2048 := by omega
  have hg : Host.gather gather_S16384x2048_S2048x1_S16384x2048_0_1_n_n_1_1_163841 L
      (broadcastInDim S2048x1 ![0] bcast_S2048_S2048x1_0 (words par)) (ix2 r n) = row L r (((n : ℕ) - 1) / 8) := by
    refine (gather_apply L _ r n ⟨_, hk⟩ ?_).trans (row_fin L r ⟨_, hk⟩).symm
    rw [tall_apply, words_apply ht]
  unfold takeLevel
  generalize Host.gather gather_S16384x2048_S2048x1_S16384x2048_0_1_n_n_1_1_163841 L
      (broadcastInDim S2048x1 ![0] bcast_S2048_S2048x1_0 (words par)) = G at hg ⊢
  rw [← hg, row_fin]
  generalize hc : andi take _ = C
  have hC : C (ix2 r n) = 1#1 ↔ take (ix2 r n) = 1#1 ∧ depth n = d := by
    rw [← hc, and_at, spread_apply]
    refine and_congr_right fun _ => ?_
    show IntOp.cmpi .eq (broadcastInDim S1x2048 ![1] bcast_S2048_S1x2048_1 lev (ix2 0 n)) (BitVec.ofNat 32 d) = 1#1 ↔ _
    have := depth_le n
    rw [eq_bit, flat_apply, ht.level, ofNat_inj (by omega) (by omega)]
  show (if C (ix2 r n) = 1#1 then L (ix2 r n) + G (ix2 r n) else L (ix2 r n)) = _
  exact if_congr hC rfl rfl

end Level

/-! ## A row -/

section Total
variable (x t : FVec Ideal S16384x2048 .f32) (par lev : IVec S2048 32)

/-- The losses after the first level, … -/
def after₁ : FVec Ideal S16384x2048 .f32 := takeLevel (takes x t par) par lev 1#32 (losses x t)
/-- … after the second, … -/
def after₂ : FVec Ideal S16384x2048 .f32 := takeLevel (takes x t par) par lev 2#32 (after₁ x t par lev)
/-- … the third, … -/
def after₃ : FVec Ideal S16384x2048 .f32 := takeLevel (takes x t par) par lev 3#32 (after₂ x t par lev)
/-- … and the fourth. -/
def after₄ : FVec Ideal S16384x2048 .f32 := takeLevel (takes x t par) par lev 4#32 (after₃ x t par lev)

variable {x t par lev}

/-- The nodes of level `d` that take, in a row. -/
def marked (take : IVec S16384x2048 1) (r : Fin 16384) (d n : ℕ) : Prop := ∃ h : n < 2048, take (ix2 r ⟨n, h⟩) = 1#1 ∧ depth n = d

open Classical in
/-- A level is one step of the cascade, on rows that agree below 2048. -/
theorem takeLevel_row (ht : IsTree par lev) (take : IVec S16384x2048 1) {d : ℕ} (hd : d ≤ 4) {L : FVec Ideal S16384x2048 .f32} {r : Fin 16384}
    {A : ℕ → EReal} (hA : ∀ n, n < 2048 → row L r n = A n) (n : ℕ) (hn : n < 2048) :
    row (takeLevel take par lev (BitVec.ofNat 32 d) L) r n = step (marked take r d) (fun n => (n - 1) / 8) A n := by
  unfold step
  rw [row, dif_pos hn, takeLevel_apply ht take hd L r ⟨n, hn⟩, hA n hn, hA _ (by simp only; omega)]
  refine if_congr ⟨fun h => ⟨hn, h⟩, fun ⟨_, h⟩ => h⟩ rfl rfl

open Classical in
/-- A row's losses after all levels sum to `rowTotal` along the row's path. -/
theorem row_sum (ht : IsTree par lev) {r : Fin 16384} (hX : ∀ n, n < 2048 → ⊥ < row x r n) {p₁ p₂ p₃ p₄ : ℕ}
    (hP : Path (row x r) p₁ p₂ p₃ p₄) :
    (∑ n : Fin 2048, after₄ x t par lev (ix2 r n)) = rowTotal (fun n => nodeLoss (row x r n) (row t r n)) (row t r) p₁ p₂ p₃ p₄ := by
  have k₁ := hP.one.lo; have l₁ := hP.one.hi
  have k₂ := hP.two.lo; have l₂ := hP.two.hi
  have k₃ := hP.three.lo; have l₃ := hP.three.hi; have m₃ := hP.three.lt
  have k₄ : p₃ ≤ 255 → 8 * p₃ + 1 ≤ p₄ ∧ p₄ ≤ 8 * p₃ + 8 ∧ p₄ < 2048 := fun h => ⟨(hP.four h).lo, (hP.four h).hi, (hP.four h).lt⟩
  have r₀ : ∀ n, n < 2048 → row (losses x t) r n = nodeLoss (row x r n) (row t r n) := fun n hn => by
    rw [row, dif_pos hn]; exact losses_apply x t r ⟨n, hn⟩
  have r₁ := takeLevel_row ht (takes x t par) (d := 1) (by omega) r₀
  have r₂ := takeLevel_row ht (takes x t par) (d := 2) (by omega) r₁
  have r₃ := takeLevel_row ht (takes x t par) (d := 3) (by omega) r₂
  have r₄ := takeLevel_row ht (takes x t par) (d := 4) (by omega) r₃
  have hm : ∀ d n, n < 2048 → (marked (takes x t par) r d n ↔ (row t r n = 0 ∧ 1 ≤ n ∧ (n = p₁ ∨ n = p₂ ∨ n = p₃ ∨ (p₃ ≤ 255 ∧ n = p₄)))
      ∧ depth n = d) := fun d n hn => by
    have := takes_apply (t := t) ht hX hP ⟨n, hn⟩
    exact ⟨fun ⟨_, h, h'⟩ => ⟨this.1 h, h'⟩, fun ⟨h, h'⟩ => ⟨hn, this.2 h, h'⟩⟩
  have hd := depth_iff
  refine (Finset.sum_congr rfl fun (n : Fin 2048) _ => (row_fin (after₄ x t par lev) r n).symm.trans (r₄ n n.2)).trans ?_
  refine cascade (by omega) (by omega) m₃ (fun h => by have := k₄ h; omega) (by omega) (by omega) (by omega)
    (fun h => by have := k₄ h; omega) ?_ ?_ ?_ ?_
  · intro n hn
    rw [hm 1 n hn, (hd n).1]
    constructor
    · rintro ⟨⟨h, -, h'⟩, h''⟩
      refine ⟨?_, h⟩
      rcases h' with h' | h' | h' | ⟨h', h3⟩ <;> first | omega | (have := k₄ h'; omega)
    · rintro ⟨h, h'⟩; exact ⟨⟨h', by omega, .inl h⟩, by omega⟩
  · intro n hn
    rw [hm 2 n hn, (hd n).2.1]
    constructor
    · rintro ⟨⟨h, -, h'⟩, h''⟩
      refine ⟨?_, h⟩
      rcases h' with h' | h' | h' | ⟨h', h3⟩ <;> first | omega | (have := k₄ h'; omega)
    · rintro ⟨h, h'⟩; exact ⟨⟨h', by omega, .inr (.inl h)⟩, by omega⟩
  · intro n hn
    rw [hm 3 n hn, (hd n).2.2.1]
    constructor
    · rintro ⟨⟨h, -, h'⟩, h''⟩
      refine ⟨?_, h⟩
      rcases h' with h' | h' | h' | ⟨h', h3⟩ <;> first | omega | (have := k₄ h'; omega)
    · rintro ⟨h, h'⟩; exact ⟨⟨h', by omega, .inr (.inr (.inl h))⟩, by omega⟩
  · intro n hn
    rw [hm 4 n hn, (hd n).2.2.2]
    constructor
    · rintro ⟨⟨h, -, h'⟩, h''⟩
      rcases h' with h' | h' | h' | ⟨h', h3⟩
      · omega
      · omega
      · omega
      · exact ⟨h', h3, h⟩
    · rintro ⟨h3, h, h'⟩
      have := k₄ h3
      exact ⟨⟨h', by omega, .inr (.inr (.inr ⟨h3, h⟩))⟩, by omega⟩

end Total

/-! ## The program's result -/

section Result
variable (x t : FVec Ideal S16384x2048 .f32) (par lev : IVec S2048 32)

/-- The mean of all losses after the cascade. -/
def mean : FVec Ideal S_ .f32 :=
  Host.divf (Host.reduceAdd (after₄ x t par lev) (constant S_ .f32 0x00000000#32) reducesTo_S16384x2048_S_d0_1 h_S_)
    (constant S_ .f32 0x4C000000#32)

/-- The sum of all losses, row by row. -/
theorem total_eq (v : FVec Ideal S16384x2048 .f32) (j : S_.Idx) :
    Host.reduceAdd v (constant S_ .f32 0x00000000#32) reducesTo_S16384x2048_S_d0_1 h_S_ j
      = ∑ r : Fin 16384, ∑ n : Fin 2048, v (ix2 r n) := by
  refine (Ideal.hostReduceAdd_total reducesTo_S16384x2048_S_d0_1 (fun b => b.elim0) v _ j).trans ?_
  show Ideal.ofBits .f32 0x00000000#32 + _ = _
  rw [ofBits_zero, zero_add]
  exact sum_idx2 _

end Result

section Terms
variable (V : Valuation τ sig (Elt Ideal))

/-- The named terms of the program's run are the functions above, of its arguments. -/
theorem v88_eq : res_main_v88 V = takes (V (Proc.devRef .tc main_arg0)) (V (Proc.devRef .tc main_arg1)) (V (Proc.devRef .tc main_arg2)) := rfl

theorem v77_eq : res_main_v77 V = losses (V (Proc.devRef .tc main_arg0)) (V (Proc.devRef .tc main_arg1)) := rfl

theorem v102_eq : res_main_v102 V = after₁ (V (Proc.devRef .tc main_arg0)) (V (Proc.devRef .tc main_arg1)) (V (Proc.devRef .tc main_arg2))
    (V (Proc.devRef .tc main_arg3)) := by
  unfold res_main_v102 after₁ takeLevel words parents
  rw [v88_eq, v77_eq]
  rfl

theorem v116_eq : res_main_v116 V = after₂ (V (Proc.devRef .tc main_arg0)) (V (Proc.devRef .tc main_arg1)) (V (Proc.devRef .tc main_arg2))
    (V (Proc.devRef .tc main_arg3)) := by
  unfold res_main_v116 after₂ takeLevel words parents
  rw [v88_eq, v102_eq]
  rfl

theorem v130_eq : res_main_v130 V = after₃ (V (Proc.devRef .tc main_arg0)) (V (Proc.devRef .tc main_arg1)) (V (Proc.devRef .tc main_arg2))
    (V (Proc.devRef .tc main_arg3)) := by
  unfold res_main_v130 after₃ takeLevel words parents
  rw [v88_eq, v116_eq]
  rfl

end Terms

/-- The program runs to its mean, its arguments unchanged. -/
theorem run_mean (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v146)
        = mean (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (run m ρ)
  rw [v88_eq, v130_eq]
  unfold mean after₄ takeLevel words parents
  rfl

end Cert.ReferenceIdeal.Row

end
-- ==== Proof.Equal.lean ====
/- The two means are equal: a row's total is one function of the row on both sides, and the kernel's 64 blocks of 256 rows are
   the reference's 16384 rows. -/
module

public import proofs.«01_k».proof.Proof.KerValue
public import proofs.«01_k».proof.Proof.RefValue

@[expose] public section

noncomputable section

namespace Cert.Equal

open Cert.Tree Idealize.ShloMosaic
open Cert.ReferenceIdeal.Row (IsTree)
open Cert.KernelIdeal.Row (blockOf filled totals totals_apply)
open Cert.KernelIdeal (S16384x2048 S2048 S64 S64x1x1 S64x1x128 S_)

/-- Row `r` of block `b`, among all rows. -/
def rowOf (b : Fin 64) (r : Fin 256) : Fin 16384 := ⟨256 * b + r, by omega⟩

theorem row_blockOf (X : FVec Ideal S16384x2048 .f32) (b : Fin 64) (r : Fin 256) : row (blockOf X b) r = row X (rowOf b r) := by
  funext n
  unfold row
  by_cases h : n < 2048
  · rw [dif_pos h, dif_pos h]; rfl
  · rw [dif_neg h, dif_neg h]

/-- All rows, block by block. -/
theorem sum_rows (f : Fin 16384 → EReal) : ∑ b : Fin 64, ∑ r : Fin 256, f (rowOf b r) = ∑ R : Fin 16384, f R := by
  rw [← Fintype.sum_prod_type' (fun b r => f (rowOf b r))]
  refine Fintype.sum_bijective (fun p : Fin 64 × Fin 256 => rowOf p.1 p.2) ⟨?_, ?_⟩ _ _ fun _ => rfl
  · rintro ⟨b, r⟩ ⟨b', r'⟩ h
    have h' : 256 * (b : ℕ) + r = 256 * b' + r' := congrArg Fin.val h
    have e : (b : ℕ) = b' := by omega
    have e' : (r : ℕ) = r' := by omega
    exact Prod.ext (Fin.ext e) (Fin.ext e')
  · intro R
    exact ⟨(⟨R / 256, by omega⟩, ⟨R % 256, by omega⟩), Fin.ext (by show 256 * ((R : ℕ) / 256) + (R : ℕ) % 256 = R; omega)⟩

/-- The host's sum of the kernel's blocks. -/
theorem blocks_total (P : FVec Ideal S64x1x128 .f32) (f : Fin 64 → EReal) (hP : ∀ i, P i = f (i 0)) (j : S_.Idx) :
    Host.reduceAdd (shapeCast S64 (extractStridedSlice S64x1x1 ![0, 0, 0] P Cert.KernelIdeal.Gen.slices_S64x1x128_S64x1x1_0_0_0)
        Cert.KernelIdeal.Gen.shapeCasts_S64x1x1_S64) (constant S_ .f32 0x00000000#32) Cert.KernelIdeal.Gen.reducesTo_S64_S_d0
        Cert.KernelIdeal.Gen.h_S_ j = ∑ b : Fin 64, f b := by
  refine (Ideal.hostReduceAdd_total Cert.KernelIdeal.Gen.reducesTo_S64_S_d0 (fun b => b.elim0) _ _ j).trans ?_
  show Ideal.ofBits .f32 0x00000000#32 + _ = _
  rw [ofBits_zero, zero_add]
  symm
  refine Fintype.sum_bijective (fun b : Fin 64 => (ValueIdx.ix1 b : S64.Idx)) ⟨?_, ?_⟩ _ _ fun b => ?_
  · intro b b' h; exact congrFun h 0
  · intro i; exact ⟨i 0, by funext a; fin_cases a; rfl⟩
  · refine Eq.symm ((shapeCast_apply _ _ _ (ValueIdx.ix3 b 0 0 : S64x1x1.Idx) ?_).trans ?_)
    · rw [Shape.rowMajor_val_three, Shape.rowMajor_val_one]
      show ((b : ℕ) * 1 + 0) * 1 + 0 = b
      omega
    · exact (extractStridedSlice_apply _ P _ _ (ValueIdx.ix3 b 0 0 : S64x1x128.Idx) (fun a => match a with
        | ⟨0, _⟩ => (Nat.zero_add _).symm | ⟨1, _⟩ => rfl | ⟨2, _⟩ => rfl)).trans (hP _)

theorem mean_eq {x t : FVec Ideal S16384x2048 .f32} {par lev : IVec S2048 32} (ht : IsTree par lev) (hx : ∀ i, ⊥ < x i) :
    Cert.KernelIdeal.Row.mean (filled x t) = Cert.ReferenceIdeal.Row.mean x t par lev := by
  unfold Cert.KernelIdeal.Row.mean Cert.ReferenceIdeal.Row.mean
  refine congrArg (fun a => Host.divf a (constant S_ .f32 0x4C000000#32)) (funext fun j => ?_)
  refine (blocks_total (filled x t) (fun b => ∑ r : Fin 256, totals (blockOf x b) (blockOf t b) (ValueIdx.ix2 r 0)) (fun _ => rfl) j).trans (.trans ?_ (Cert.ReferenceIdeal.Row.total_eq _ j).symm)
  refine .trans ?_ (sum_rows _)
  refine Finset.sum_congr rfl fun b _ => Finset.sum_congr rfl fun r _ => ?_
  have hX : ∀ n, n < 2048 → ⊥ < row x (rowOf b r) n := fun n hn => by rw [row, dif_pos hn]; exact hx _
  obtain ⟨p₁, p₂, p₃, p₄, hP, e⟩ := totals_apply (blockOf x b) (blockOf t b) r (by rw [row_blockOf]; exact hX)
  rw [row_blockOf] at hP e
  rw [row_blockOf] at e
  exact e.trans (Cert.ReferenceIdeal.Row.row_sum ht hX hP).symm

end Cert.Equal

end
-- ==== Proof.lean ====
/- The certificate of `Cert.Claim`: the kernel and its ideal reading run and leave their arguments, so does the reference, the
   two named constants are what their bits stand for, and the two ideal programs' means are equal. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_tree_inputs
public import proofs.«01_k».proof.Proof.Given
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference runs, its arguments end unchanged, and every counter reads zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run _ _ _).mono (fun r h => ⟨fun c => (h c).2, Idealize.ShloMosaic.sem_eq_zero_of_no_sems (by decide) r.2⟩)
    (Cert.ReferenceIdeal.Row.run_mean m g)

/-- The two ideal programs end with equal results. -/
theorem equal : Cert.algebraic_KernelIdeal_ReferenceIdeal_pre_tree_inputs := by
  intro m g m' g' hpre hargs
  refine ⟨fun c => Cert.KernelIdeal.Row.mean (Cert.KernelIdeal.Row.filled
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))), Cert.KernelIdeal.Row.run m g, ?_⟩
  refine (θ_run _ _ _).mono (fun r h c => ⟨(h c).1.trans ?_, (h c).2⟩) (Cert.ReferenceIdeal.Row.run_mean m' g')
  obtain ⟨e₀, e₁, e₂, e₃⟩ := hargs c
  rw [e₀, e₁, e₂, e₃]
  obtain ⟨ht, hx⟩ := Cert.Pre_tree_inputs.Given.given (hpre c)
  exact (Cert.Equal.mean_eq ht hx).symm

theorem claim : Cert.Claim := ⟨Cert.Kernel.Gen.facts, Cert.KernelIdeal.Gen.facts, Cert.ReferenceIdeal.Gen.facts, Cert.Pre_tree_inputs.Gen.facts,
  fun m g _ => Cert.Kernel.Gen.frame m g, fun m g _ => Cert.KernelIdeal.Gen.frame m g, fun m g _ => Cert.KernelIdeal.Gen.frame m g,
  fun m g _ => reference_frame m g, fun m g _ => reference_frame m g,
  ⟨IdealRules.named_const.statement Cert.KernelIdeal.κ "log2e" .f32 0x3FB8AA3B#32 (((Real.log 2)⁻¹ : ℝ) : EReal) rfl,
    IdealRules.named_const.statement Cert.KernelIdeal.κ "ln2" .f32 0x3F317218#32 ((Real.log 2 : ℝ) : EReal) rfl⟩, equal⟩

end Cert.Proof

end
